-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x1024x32 : Shape := ⟨3, ![64, 1024, 32]⟩
abbrev S3x256x32 : Shape := ⟨3, ![3, 256, 32]⟩
abbrev S_ : Shape := ⟨0, ![]⟩

class Facts : Prop where
  bcast_S_S64x1024x32 : S_.BroadcastsInDim S64x1024x32 (![] : Fin 0 → Fin S64x1024x32.rank)
  reducesTo_S64x1024x32_S_d0_1_2 : S64x1024x32.ReducesTo [0, 1, 2] S_
  h_S_ : 0 < S_.numel
  bcast_S_S3x256x32 : S_.BroadcastsInDim S3x256x32 (![] : Fin 0 → Fin S3x256x32.rank)
  reducesTo_S3x256x32_S_d0_1_2 : S3x256x32.ReducesTo [0, 1, 2] S_

variable [Facts]

def fn {F : FTy → Type} [FloatOps F] (main_arg0 : FVec F S64x1024x32 .f32) (main_arg1 : FVec F S3x256x32 .f32) : IVec S_ 1 :=
  let main_v0 : FVec F S64x1024x32 .f32 := Host.absf main_arg0
  let main_cst : FVec F S_ .f32 := constant S_ .f32 0x7F800000#32
  let main_v1 : FVec F S64x1024x32 .f32 := broadcastInDim S64x1024x32 ![] bcast_S_S64x1024x32 main_cst
  let main_v2 : IVec S64x1024x32 1 := cmpf .olt main_v0 main_v1
  let main_c : IVec S_ 1 := constantI S_ 1 1#1
  let main_v3 : IVec S_ 1 := (fun x v => Host.reduce IntOp.andi x v reducesTo_S64x1024x32_S_d0_1_2 h_S_) main_v2 main_c
  let main_v4 : FVec F S3x256x32 .f32 := Host.absf main_arg1
  let main_cst_0 : FVec F S_ .f32 := constant S_ .f32 0x7F800000#32
  let main_v5 : FVec F S3x256x32 .f32 := broadcastInDim S3x256x32 ![] bcast_S_S3x256x32 main_cst_0
  let main_v6 : IVec S3x256x32 1 := cmpf .olt main_v4 main_v5
  let main_c_1 : IVec S_ 1 := constantI S_ 1 1#1
  let main_v7 : IVec S_ 1 := (fun x v => Host.reduce IntOp.andi x v reducesTo_S3x256x32_S_d0_1_2 h_S_) main_v6 main_c_1
  let main_v8 : IVec S_ 1 := andi main_v3 main_v7
  main_v8
-- ==== Kernel.lean ====
abbrev S64x1024x32 : Shape := ⟨3, ![64, 1024, 32]⟩
abbrev S3x256x32 : Shape := ⟨3, ![3, 256, 32]⟩
abbrev S3x32x256 : Shape := ⟨3, ![3, 32, 256]⟩
abbrev S32x1024x32 : Shape := ⟨3, ![32, 1024, 32]⟩
abbrev S32768x32 : Shape := ⟨2, ![32768, 32]⟩
abbrev S32x32768 : Shape := ⟨2, ![32, 32768]⟩
abbrev S16x3x2048 : Shape := ⟨3, ![16, 3, 2048]⟩
abbrev S1x128 : Shape := ⟨2, ![1, 128]⟩
abbrev S16x2048x3 : Shape := ⟨3, ![16, 2048, 3]⟩
abbrev S32x1024x3 : Shape := ⟨3, ![32, 1024, 3]⟩
abbrev S64x1024x3 : Shape := ⟨3, ![64, 1024, 3]⟩
abbrev S_ : Shape := ⟨0, ![]⟩
abbrev S1x3 : Shape := ⟨2, ![1, 3]⟩
abbrev S3 : Shape := ⟨1, ![3]⟩
abbrev S32x2048 : Shape := ⟨2, ![32, 2048]⟩
abbrev S1x3x2048 : Shape := ⟨3, ![1, 3, 2048]⟩
abbrev S256x2048 : Shape := ⟨2, ![256, 2048]⟩
abbrev S1x256x32 : Shape := ⟨3, ![1, 256, 32]⟩
abbrev S256x32 : Shape := ⟨2, ![256, 32]⟩
abbrev S1x32x256 : Shape := ⟨3, ![1, 32, 256]⟩
abbrev S32x256 : Shape := ⟨2, ![32, 256]⟩
abbrev S256 : Shape := ⟨1, ![256]⟩
abbrev S256x1 : Shape := ⟨2, ![256, 1]⟩
abbrev S16x2048 : Shape := ⟨2, ![16, 2048]⟩
abbrev S8x2048 : Shape := ⟨2, ![8, 2048]⟩
abbrev S2048 : Shape := ⟨1, ![2048]⟩
abbrev S1x2048 : Shape := ⟨2, ![1, 2048]⟩
abbrev S32x128 : Shape := ⟨2, ![32, 128]⟩
abbrev S32x128x1 : Shape := ⟨3, ![32, 128, 1]⟩
abbrev S1x32x2048 : Shape := ⟨3, ![1, 32, 2048]⟩
abbrev S1 : Shape := ⟨1, ![1]⟩
abbrev S1x1x1 : Shape := ⟨3, ![1, 1, 1]⟩
abbrev S1x1x2048 : Shape := ⟨3, ![1, 1, 2048]⟩

abbrev nBuf : Space → Nat
  | .hbm => 31
  | .vmem => 18
  | .smem => 0
  | _ => 0

abbrev bufTy : (tb : Table) → Fin (tcTables nBuf tb) → BufTy
  | .hbm, ⟨0, _⟩ => ⟨S64x1024x32, .f32⟩
  | .hbm, ⟨1, _⟩ => ⟨S3x256x32, .f32⟩
  | .hbm, ⟨2, _⟩ => ⟨S3x32x256, .f32⟩
  | .hbm, ⟨3, _⟩ => ⟨S32x1024x32, .f32⟩
  | .hbm, ⟨4, _⟩ => ⟨S32768x32, .f32⟩
  | .hbm, ⟨5, _⟩ => ⟨S32x32768, .f32⟩
  | .hbm, ⟨6, _⟩ => ⟨S32x32768, .f32⟩
  | .hbm, ⟨7, _⟩ => ⟨S16x3x2048, .i32⟩
  | .hbm, ⟨8, _⟩ => ⟨S1x128, .f32⟩
  | .hbm, ⟨9, _⟩ => ⟨S32768x32, .f32⟩
  | .hbm, ⟨10, _⟩ => ⟨S32x1024x32, .f32⟩
  | .hbm, ⟨11, _⟩ => ⟨S16x2048x3, .i32⟩
  | .hbm, ⟨12, _⟩ => ⟨S32x1024x3, .i32⟩
  | .hbm, ⟨13, _⟩ => ⟨S32x1024x32, .f32⟩
  | .hbm, ⟨14, _⟩ => ⟨S32768x32, .f32⟩
  | .hbm, ⟨15, _⟩ => ⟨S32x32768, .f32⟩
  | .hbm, ⟨16, _⟩ => ⟨S32x32768, .f32⟩
  | .hbm, ⟨17, _⟩ => ⟨S16x3x2048, .i32⟩
  | .hbm, ⟨18, _⟩ => ⟨S1x128, .f32⟩
  | .hbm, ⟨19, _⟩ => ⟨S32768x32, .f32⟩
  | .hbm, ⟨20, _⟩ => ⟨S32x1024x32, .f32⟩
  | .hbm, ⟨21, _⟩ => ⟨S16x2048x3, .i32⟩
  | .hbm, ⟨22, _⟩ => ⟨S32x1024x3, .i32⟩
  | .hbm, ⟨23, _⟩ => ⟨S64x1024x32, .f32⟩
  | .hbm, ⟨24, _⟩ => ⟨S64x1024x3, .i32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x3, .f32⟩
  | .hbm, ⟨30, _⟩ => ⟨S3, .f32⟩
  | .local _ .vmem, ⟨0, _⟩ => ⟨S32x2048, .f32⟩
  | .local _ .vmem, ⟨1, _⟩ => ⟨S32x2048, .f32⟩
  | .local _ .vmem, ⟨2, _⟩ => ⟨S3x256x32, .f32⟩
  | .local _ .vmem, ⟨3, _⟩ => ⟨S3x32x256, .f32⟩
  | .local _ .vmem, ⟨4, _⟩ => ⟨S32x2048, .f32⟩
  | .local _ .vmem, ⟨5, _⟩ => ⟨S32x2048, .f32⟩
  | .local _ .vmem, ⟨6, _⟩ => ⟨S1x3x2048, .i32⟩
  | .local _ .vmem, ⟨7, _⟩ => ⟨S1x3x2048, .i32⟩
  | .local _ .vmem, ⟨8, _⟩ => ⟨S1x128, .f32⟩
  | .local _ .vmem, ⟨9, _⟩ => ⟨S32x2048, .f32⟩
  | .local _ .vmem, ⟨10, _⟩ => ⟨S32x2048, .f32⟩
  | .local _ .vmem, ⟨11, _⟩ => ⟨S3x256x32, .f32⟩
  | .local _ .vmem, ⟨12, _⟩ => ⟨S3x32x256, .f32⟩
  | .local _ .vmem, ⟨13, _⟩ => ⟨S32x2048, .f32⟩
  | .local _ .vmem, ⟨14, _⟩ => ⟨S32x2048, .f32⟩
  | .local _ .vmem, ⟨15, _⟩ => ⟨S1x3x2048, .i32⟩
  | .local _ .vmem, ⟨16, _⟩ => ⟨S1x3x2048, .i32⟩
  | .local _ .vmem, ⟨17, _⟩ => ⟨S1x128, .f32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4_0 : Ref sig .tc := ⟨.hbm, 6, rfl⟩
abbrev main_call0_v4_1 : Ref sig .tc := ⟨.hbm, 7, rfl⟩
abbrev main_call0_v4_2 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12_0 : Ref sig .tc := ⟨.hbm, 16, rfl⟩
abbrev main_call0_v12_1 : Ref sig .tc := ⟨.hbm, 17, rfl⟩
abbrev main_call0_v12_2 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0_0 : Ref sig .tc := ⟨.hbm, 23, rfl⟩
abbrev main_v0_1 : Ref sig .tc := ⟨.hbm, 24, rfl⟩
abbrev main_call0_cst : Ref sig .tc := ⟨.hbm, 25, rfl⟩
abbrev main_call0_v19 : Ref sig .tc := ⟨.hbm, 26, rfl⟩
abbrev main_call0_v20 : Ref sig .tc := ⟨.hbm, 27, rfl⟩
abbrev main_call0_v21 : Ref sig .tc := ⟨.hbm, 28, rfl⟩
abbrev main_call0_v22 : Ref sig .tc := ⟨.hbm, 29, rfl⟩
abbrev main_v0_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x256x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x32x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x3x2048 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S64x1024x32 : Shape := ⟨3, ![64, 1024, 32]⟩
abbrev S3x256x32 : Shape := ⟨3, ![3, 256, 32]⟩
abbrev S_ : Shape := ⟨0, ![]⟩
abbrev S1x256x32 : Shape := ⟨3, ![1, 256, 32]⟩
abbrev S256x32 : Shape := ⟨2, ![256, 32]⟩
abbrev S64x1024 : Shape := ⟨2, ![64, 1024]⟩
abbrev S64x1024x1 : Shape := ⟨3, ![64, 1024, 1]⟩
abbrev S64x1024x256 : Shape := ⟨3, ![64, 1024, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S64x1024x3 : Shape := ⟨3, ![64, 1024, 3]⟩
abbrev S3 : Shape := ⟨1, ![3]⟩

abbrev nBuf : Space → Nat
  | .hbm => 180
  | .vmem => 0
  | .smem => 0
  | _ => 0

abbrev hbmTy0_0 (i : Nat) : BufTy := match i % 128 with
  | 0 => ⟨S64x1024x32, .f32⟩
  | 1 => ⟨S3x256x32, .f32⟩
  | 2 => ⟨S_, .f32⟩
  | 3 => ⟨S64x1024x32, .f32⟩
  | 4 => ⟨S1x256x32, .f32⟩
  | 5 => ⟨S256x32, .f32⟩
  | 6 => ⟨S64x1024x32, .f32⟩
  | 7 => ⟨S_, .f32⟩
  | 8 => ⟨S64x1024, .f32⟩
  | 9 => ⟨S64x1024x1, .f32⟩
  | 10 => ⟨S64x1024x256, .f32⟩
  | 11 => ⟨S_, .f32⟩
  | 12 => ⟨S64x1024x256, .f32⟩
  | 13 => ⟨S64x1024x256, .f32⟩
  | 14 => ⟨S64x1024x256, .f32⟩
  | 15 => ⟨S64x1024x256, .f32⟩
  | 16 => ⟨S256x32, .f32⟩
  | 17 => ⟨S_, .f32⟩
  | 18 => ⟨S256, .f32⟩
  | 19 => ⟨S1x1x256, .f32⟩
  | 20 => ⟨S64x1024x256, .f32⟩
  | 21 => ⟨S64x1024x256, .f32⟩
  | 22 => ⟨S64x1024x256, .i32⟩
  | 23 => ⟨S_, .f32⟩
  | 24 => ⟨S_, .i32⟩
  | 25 => ⟨S64x1024, .f32⟩
  | 26 => ⟨S64x1024, .i32⟩
  | 27 => ⟨S_, .i32⟩
  | 28 => ⟨S64x1024, .i32⟩
  | 29 => ⟨S64x1024, .i1⟩
  | 30 => ⟨S_, .i32⟩
  | 31 => ⟨S64x1024, .i32⟩
  | 32 => ⟨S64x1024, .i32⟩
  | 33 => ⟨S64x1024, .i32⟩
  | 34 => ⟨S64x1024x1, .i32⟩
  | 35 => ⟨S1, .i32⟩
  | 36 => ⟨S_, .i32⟩
  | 37 => ⟨S64x1024x1, .i32⟩
  | 38 => ⟨S64x1024x1, .i1⟩
  | 39 => ⟨S1x1x1, .i32⟩
  | 40 => ⟨S64x1024x1, .i32⟩
  | 41 => ⟨S64x1024x1, .i1⟩
  | 42 => ⟨S64x1024x1, .i1⟩
  | 43 => ⟨S_, .i1⟩
  | 44 => ⟨S64x1024, .i1⟩
  | 45 => ⟨S64x1024x32, .f32⟩
  | 46 => ⟨S64x1024x32, .i1⟩
  | 47 => ⟨S_, .f32⟩
  | 48 => ⟨S64x1024x32, .f32⟩
  | 49 => ⟨S64x1024x32, .f32⟩
  | 50 => ⟨S64x1024x32, .f32⟩
  | 51 => ⟨S64x1024x32, .f32⟩
  | 52 => ⟨S_, .f32⟩
  | 53 => ⟨S_, .f32⟩
  | 54 => ⟨S_, .f32⟩
  | 55 => ⟨S_, .f32⟩
  | 56 => ⟨S64x1024x32, .f32⟩
  | 57 => ⟨S64x1024x32, .f32⟩
  | 58 => ⟨S64x1024x32, .f32⟩
  | 59 => ⟨S64x1024x32, .f32⟩
  | 60 => ⟨S1x256x32, .f32⟩
  | 61 => ⟨S256x32, .f32⟩
  | 62 => ⟨S64x1024x32, .f32⟩
  | 63 => ⟨S_, .f32⟩
  | 64 => ⟨S64x1024, .f32⟩
  | 65 => ⟨S64x1024x1, .f32⟩
  | 66 => ⟨S64x1024x256, .f32⟩
  | 67 => ⟨S_, .f32⟩
  | 68 => ⟨S64x1024x256, .f32⟩
  | 69 => ⟨S64x1024x256, .f32⟩
  | 70 => ⟨S64x1024x256, .f32⟩
  | 71 => ⟨S64x1024x256, .f32⟩
  | 72 => ⟨S256x32, .f32⟩
  | 73 => ⟨S_, .f32⟩
  | 74 => ⟨S256, .f32⟩
  | 75 => ⟨S1x1x256, .f32⟩
  | 76 => ⟨S64x1024x256, .f32⟩
  | 77 => ⟨S64x1024x256, .f32⟩
  | 78 => ⟨S64x1024x256, .i32⟩
  | 79 => ⟨S_, .f32⟩
  | 80 => ⟨S_, .i32⟩
  | 81 => ⟨S64x1024, .f32⟩
  | 82 => ⟨S64x1024, .i32⟩
  | 83 => ⟨S_, .i32⟩
  | 84 => ⟨S64x1024, .i32⟩
  | 85 => ⟨S64x1024, .i1⟩
  | 86 => ⟨S_, .i32⟩
  | 87 => ⟨S64x1024, .i32⟩
  | 88 => ⟨S64x1024, .i32⟩
  | 89 => ⟨S64x1024, .i32⟩
  | 90 => ⟨S64x1024x1, .i32⟩
  | 91 => ⟨S1, .i32⟩
  | 92 => ⟨S_, .i32⟩
  | 93 => ⟨S64x1024x1, .i32⟩
  | 94 => ⟨S64x1024x1, .i1⟩
  | 95 => ⟨S1x1x1, .i32⟩
  | 96 => ⟨S64x1024x1, .i32⟩
  | 97 => ⟨S64x1024x1, .i1⟩
  | 98 => ⟨S64x1024x1, .i1⟩
  | 99 => ⟨S_, .i1⟩
  | 100 => ⟨S64x1024, .i1⟩
  | 101 => ⟨S64x1024x32, .f32⟩
  | 102 => ⟨S64x1024x32, .i1⟩
  | 103 => ⟨S_, .f32⟩
  | 104 => ⟨S64x1024x32, .f32⟩
  | 105 => ⟨S64x1024x32, .f32⟩
  | 106 => ⟨S64x1024x32, .f32⟩
  | 107 => ⟨S64x1024x32, .f32⟩
  | 108 => ⟨S_, .f32⟩
  | 109 => ⟨S_, .f32⟩
  | 110 => ⟨S_, .f32⟩
  | 111 => ⟨S_, .f32⟩
  | 112 => ⟨S64x1024x32, .f32⟩
  | 113 => ⟨S64x1024x32, .f32⟩
  | 114 => ⟨S64x1024x32, .f32⟩
  | 115 => ⟨S64x1024x32, .f32⟩
  | 116 => ⟨S1x256x32, .f32⟩
  | 117 => ⟨S256x32, .f32⟩
  | 118 => ⟨S64x1024x32, .f32⟩
  | 119 => ⟨S_, .f32⟩
  | 120 => ⟨S64x1024, .f32⟩
  | 121 => ⟨S64x1024x1, .f32⟩
  | 122 => ⟨S64x1024x256, .f32⟩
  | 123 => ⟨S_, .f32⟩
  | 124 => ⟨S64x1024x256, .f32⟩
  | 125 => ⟨S64x1024x256, .f32⟩
  | 126 => ⟨S64x1024x256, .f32⟩
  | 127 => ⟨S64x1024x256, .f32⟩
  | _ => ⟨S64x1024x32, .f32⟩

abbrev hbmTy0_1 (i : Nat) : BufTy := match i % 128 with
  | 0 => ⟨S256x32, .f32⟩
  | 1 => ⟨S_, .f32⟩
  | 2 => ⟨S256, .f32⟩
  | 3 => ⟨S1x1x256, .f32⟩
  | 4 => ⟨S64x1024x256, .f32⟩
  | 5 => ⟨S64x1024x256, .f32⟩
  | 6 => ⟨S64x1024x256, .i32⟩
  | 7 => ⟨S_, .f32⟩
  | 8 => ⟨S_, .i32⟩
  | 9 => ⟨S64x1024, .f32⟩
  | 10 => ⟨S64x1024, .i32⟩
  | 11 => ⟨S_, .i32⟩
  | 12 => ⟨S64x1024, .i32⟩
  | 13 => ⟨S64x1024, .i1⟩
  | 14 => ⟨S_, .i32⟩
  | 15 => ⟨S64x1024, .i32⟩
  | 16 => ⟨S64x1024, .i32⟩
  | 17 => ⟨S64x1024, .i32⟩
  | 18 => ⟨S64x1024x1, .i32⟩
  | 19 => ⟨S1, .i32⟩
  | 20 => ⟨S_, .i32⟩
  | 21 => ⟨S64x1024x1, .i32⟩
  | 22 => ⟨S64x1024x1, .i1⟩
  | 23 => ⟨S1x1x1, .i32⟩
  | 24 => ⟨S64x1024x1, .i32⟩
  | 25 => ⟨S64x1024x1, .i1⟩
  | 26 => ⟨S64x1024x1, .i1⟩
  | 27 => ⟨S_, .i1⟩
  | 28 => ⟨S64x1024, .i1⟩
  | 29 => ⟨S64x1024x32, .f32⟩
  | 30 => ⟨S64x1024x32, .i1⟩
  | 31 => ⟨S_, .f32⟩
  | 32 => ⟨S64x1024x32, .f32⟩
  | 33 => ⟨S64x1024x32, .f32⟩
  | 34 => ⟨S64x1024x32, .f32⟩
  | 35 => ⟨S64x1024x32, .f32⟩
  | 36 => ⟨S_, .f32⟩
  | 37 => ⟨S_, .f32⟩
  | 38 => ⟨S_, .f32⟩
  | 39 => ⟨S_, .f32⟩
  | 40 => ⟨S64x1024x32, .f32⟩
  | 41 => ⟨S64x1024x32, .f32⟩
  | 42 => ⟨S64x1024x32, .f32⟩
  | 43 => ⟨S64x1024x32, .f32⟩
  | 44 => ⟨S64x1024x1, .i32⟩
  | 45 => ⟨S64x1024x1, .i32⟩
  | 46 => ⟨S64x1024x1, .i32⟩
  | 47 => ⟨S64x1024x3, .i32⟩
  | 48 => ⟨S1, .f32⟩
  | 49 => ⟨S1, .f32⟩
  | 50 => ⟨S1, .f32⟩
  | 51 => ⟨S3, .f32⟩
  | _ => ⟨S64x1024x32, .f32⟩

abbrev hbmTy (i : Nat) : BufTy := match i / 128 with
  | 0 => hbmTy0_0 i
  | 1 => hbmTy0_1 i
  | _ => ⟨S64x1024x32, .f32⟩

abbrev bufTy : (tb : Table) → Fin (tcTables nBuf tb) → BufTy
  | .hbm, ⟨i, _⟩ => hbmTy i
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_7 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call2_v0 : Ref sig .tc := ⟨.hbm, 78, rfl⟩
abbrev main_call2_cst : Ref sig .tc := ⟨.hbm, 79, rfl⟩
abbrev main_call2_c : Ref sig .tc := ⟨.hbm, 80, rfl⟩
abbrev main_call2_v1_0 : Ref sig .tc := ⟨.hbm, 81, rfl⟩
abbrev main_v41 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_8 : Ref sig .tc := ⟨.hbm, 108, rfl⟩
abbrev main_v45 : Ref sig .tc := ⟨.hbm, 109, rfl⟩
abbrev main_cst_9 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_10 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_cst_11 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_cst_12 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_call4_v0 : Ref sig .tc := ⟨.hbm, 134, rfl⟩
abbrev main_call4_cst : Ref sig .tc := ⟨.hbm, 135, rfl⟩
abbrev main_call4_c : Ref sig .tc := ⟨.hbm, 136, rfl⟩
abbrev main_call4_v1_0 : Ref sig .tc := ⟨.hbm, 137, rfl⟩
abbrev main_v66 : Ref sig .tc := ⟨.hbm, 138, rfl⟩
abbrev main_call5_c : Ref sig .tc := ⟨.hbm, 139, rfl⟩
abbrev main_call5_v0 : Ref sig .tc := ⟨.hbm, 140, rfl⟩
abbrev main_call5_v1 : Ref sig .tc := ⟨.hbm, 141, rfl⟩
abbrev main_call5_c_0 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_call5_v5 : Ref sig .tc := ⟨.hbm, 146, rfl⟩
abbrev main_call5_c_1 : Ref sig .tc := ⟨.hbm, 147, rfl⟩
abbrev main_call5_c_2 : Ref sig .tc := ⟨.hbm, 148, rfl⟩
abbrev main_call5_v6 : Ref sig .tc := ⟨.hbm, 149, rfl⟩
abbrev main_call5_v7 : Ref sig .tc := ⟨.hbm, 150, rfl⟩
abbrev main_call5_v8 : Ref sig .tc := ⟨.hbm, 151, rfl⟩
abbrev main_call5_v9 : Ref sig .tc := ⟨.hbm, 152, rfl⟩
abbrev main_call5_v10 : Ref sig .tc := ⟨.hbm, 153, rfl⟩
abbrev main_call5_v11 : Ref sig .tc := ⟨.hbm, 154, rfl⟩
abbrev main_call5_c_3 : Ref sig .tc := ⟨.hbm, 155, rfl⟩
abbrev main_call5_v12 : Ref sig .tc := ⟨.hbm, 156, rfl⟩
abbrev main_call5_v13 : Ref sig .tc := ⟨.hbm, 157, rfl⟩
abbrev main_call5_v14 : Ref sig .tc := ⟨.hbm, 158, rfl⟩
abbrev main_call5_cst : Ref sig .tc := ⟨.hbm, 159, rfl⟩
abbrev main_call5_v15 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_cst_13 : Ref sig .tc := ⟨.hbm, 164, rfl⟩
abbrev main_v70 : Ref sig .tc := ⟨.hbm, 165, rfl⟩
abbrev main_cst_14 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩

abbrev nD : Nat := 1
abbrev τ : Topo := Topo.v7x

variable {F : FTy → Type} [FloatOps F]
-- ==== Proof.RefOps.lean ====
/-
  The reference's @main as a straight line of operations, cut into the stages of the quantiser: per stage the distances
  (`dist`), the nearest code's index (`argmin`), the codes looked up (`take`) and the update of the residual (`upd`).
  A called function's operations stand in its call's place. From the list every execution of @main is known to end with
  the operations' results folded over the launch contents (`run_ops`).
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of @main (`dist0`): the squared distances of every residual to every code. -/
abbrev dist0 : List (HloOp τ sig (Elt F)) :=
  [ nullary main_cst (constant S_ .f32 0x00000000#32),
    unary main_cst main_v0 (broadcastInDim S64x1024x32 ![] bcast_S_S64x1024x32 : (⟨S_, .f32⟩ : BufTy).Contents (Elt F) → (⟨S64x1024x32, .f32⟩ : BufTy).Contents (Elt F)),
    unary main_arg1 main_v1 ((extractStridedSlice S1x256x32 ![0, 0, 0] · slices_S3x256x32_S1x256x32_0_0_0) : (⟨S3x256x32, .f32⟩ : BufTy).Contents (Elt F) → (⟨S1x256x32, .f32⟩ : BufTy).Contents (Elt F)),
    reshape main_v1 main_v2 (rfl : (.f32 : EltTy) = .f32) shapeCasts_S1x256x32_S256x32,
    binary main_arg0 main_arg0 main_v3 (mulf : (⟨S64x1024x32, .f32⟩ : BufTy).Contents (Elt F) → (⟨S64x1024x32, .f32⟩ : BufTy).Contents (Elt F) → (⟨S64x1024x32, .f32⟩ : BufTy).Contents (Elt F)),
    nullary main_cst_0 (constant S_ .f32 0x00000000#32),
    binary main_v3 main_cst_0 main_v4 ((fun x v => Host.reduceAdd x v reducesTo_S64x1024x32_S64x1024_d2 h_S_) : (⟨S64x1024x32, .f32⟩ : BufTy).Contents (Elt F) → (⟨S_, .f32⟩ : BufTy).Contents (Elt F) → (⟨S64x1024, .f32⟩ : BufTy).Contents (Elt F)),
    unary main_v4 main_v5 (broadcastInDim S64x1024x1 ![0, 1] bcast_S64x1024_S64x1024x1_0_1 : (⟨S64x1024, .f32⟩ : BufTy).Contents (Elt F) → (⟨S64x1024x1, .f32⟩ : BufTy).Contents (Elt F)),
    binary main_arg0 main_v2 main_v6 ((fun l r => Host.dotGeneral dot_S64x1024x32_S256x32_S64x1024x256_2_1_01_0_n_n none l r) : (⟨S64x1024x32, .f32⟩ : BufTy).Contents (Elt F) → (⟨S256x32, .f32⟩ : BufTy).Contents (Elt F) → (⟨S64x1024x256, .f32⟩ : BufTy).Contents (Elt F)),
    nullary main_cst_1 (constant S_ .f32 0x40000000#32),
    unary main_cst_1 main_v7 (broadcastInDim S64x1024x256 ![] bcast_S_S64x1024x256 : (⟨S_, .f32⟩ : BufTy).Contents (Elt F) → (⟨S64x1024x256, .f32⟩ : BufTy).Contents (Elt F)),
    binary main_v7 main_v6 main_v8 (mulf : (⟨S64x1024x256, .f32⟩ : BufTy).Contents (Elt F) → (⟨S64x1024x256, .f32⟩ : BufTy).Contents (Elt F) → (⟨S64x1024x256, .f32⟩ : BufTy).Contents (Elt F)),
    unary main_v5 main_v9 (broadcastInDim S64x1024x256 ![0, 1, 2] bcast_S64x1024x1_S64x1024x256_0_1_2 : (⟨S64x1024x1, .f32⟩ : BufTy).Contents (Elt F) → (⟨S64x1024x256, .f32⟩ : BufTy).Contents (Elt F)),
    binary main_v9 main_v8 main_v10 (subf : (⟨S64x1024x256, .f32⟩ : BufTy).Contents (Elt F) → (⟨S64x1024x256, .f32⟩ : BufTy).Contents (Elt F) → (⟨S64x1024x256, .f32⟩ : BufTy).Contents (Elt F)),
    binary main_v2 main_v2 main_v11 (mulf : (⟨S256x32, .f32⟩ : BufTy).Contents (Elt F) → (⟨S256x32, .f32⟩ : BufTy).Contents (Elt F) → (⟨S256x32, .f32⟩ : BufTy).Contents (Elt F)),
    nullary main_cst_2 (constant S_ .f32 0x00000000#32),
    binary main_v11 main_cst_2 main_v12 ((fun x v => Host.reduceAdd x v reducesTo_S256x32_S256_d1 h_S_) : (⟨S256x32, .f32⟩ : BufTy).Contents (Elt F) → (⟨S_, .f32⟩ : BufTy).Contents (Elt F) → (⟨S256, .f32⟩ : BufTy).Contents (Elt F)),
    unary main_v12 main_v13 (broadcastInDim S1x1x256 ![2] bcast_S256_S1x1x256_2 : (⟨S256, .f32⟩ : BufTy).Contents (Elt F) → (⟨S1x1x256, .f32⟩ : BufTy).Contents (Elt F)),
    unary main_v13 main_v14 (broadcastInDim S64x1024x256 ![0, 1, 2] bcast_S1x1x256_S64x1024x256_0_1_2 : (⟨S1x1x256, .f32⟩ : BufTy).Contents (Elt F) → (⟨S64x1024x256, .f32⟩ : BufTy).Contents (Elt F)),
    binary main_v10 main_v14 main_v15 (addf : (⟨S64x1024x256, .f32⟩ : BufTy).Contents (Elt F) → (⟨S64x1024x256, .f32⟩ : BufTy).Contents (Elt F) → (⟨S64x1024x256, .f32⟩ : BufTy).Contents (Elt F)) ]

/-- The buffers these operations write. -/
abbrev dist0W : List (Ref sig .tc) := [main_cst, main_v0, main_v1, main_v2, main_v3, main_cst_0, main_v4, main_v5, main_v6, main_cst_1, main_v7, main_v8, main_v9, main_v10, main_v11, main_cst_2, main_v12, main_v13, main_v14, main_v15]

theorem dist0_writes : (dist0 : List (HloOp τ sig (Elt F))).map HloOp.writes = dist0W.map fun w => {Proc.devRef (τ := τ) .tc w} := rfl
theorem dist0_sub : (dist0 : List (HloOp τ sig (Elt F))).Forall fun op => op.bufs ⊆ tcRefs τ sig :=
  ⟨nullary_bufs_sub .., unary_bufs_sub .., unary_bufs_sub .., reshape_bufs_sub .., binary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem dist0_fresh : (dist0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The operations of @main (`argmin0`): the index of the nearest code. -/
abbrev argmin0 : List (HloOp τ sig (Elt F)) :=
  [ TRef.nullary (TRef.of (T := ⟨S64x1024x256, .i32⟩) main_call0_v0) (iotaInDim S64x1024x256 32 2),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S64x1024x256, .f32⟩) main_v15) (TRef.of (T := ⟨S64x1024x256, .i32⟩) main_call0_v0) (TRef.of (T := ⟨S_, .f32⟩) main_call0_cst) (TRef.of (T := ⟨S_, .i32⟩) main_call0_c) (TRef.of (T := ⟨S64x1024, .f32⟩) main_call0_v1_0) (fun x y u v j => (Host.argReduce reducer_argmin_f32_i32 x y u v reducesTo_S64x1024x256_S64x1024_d2 h_S_ j).1),
    TRef.quaternary (TRef.of (T := ⟨S64x1024x256, .f32⟩) main_v15) (TRef.of (T := ⟨S64x1024x256, .i32⟩) main_call0_v0) (TRef.of (T := ⟨S_, .f32⟩) main_call0_cst) (TRef.of (T := ⟨S_, .i32⟩) main_call0_c) (TRef.of (T := ⟨S64x1024, .i32⟩) main_v16) (fun x y u v j => (Host.argReduce reducer_argmin_f32_i32 x y u v reducesTo_S64x1024x256_S64x1024_d2 h_S_ j).2) ]

/-- The buffers these operations write. -/
abbrev argmin0W : List (Ref sig .tc) := [main_call0_v0, main_call0_cst, main_call0_c, main_call0_v1_0, main_v16]

theorem argmin0_writes : (argmin0 : List (HloOp τ sig (Elt F))).map HloOp.writes = argmin0W.map fun w => {Proc.devRef (τ := τ) .tc w} := rfl
theorem argmin0_sub : (argmin0 : List (HloOp τ sig (Elt F))).Forall fun op => op.bufs ⊆ tcRefs τ sig :=
  ⟨nullary_bufs_sub .., nullary_bufs_sub .., nullary_bufs_sub .., quaternary_bufs_sub .., quaternary_bufs_sub ..⟩
theorem argmin0_fresh : (argmin0 : List (HloOp τ sig (Elt F))).Forall fun op => op.fresh = ∅ :=
  ⟨rfl, rfl, rfl, rfl, rfl⟩

/-- The operations of @main (`take0`): the nearest codes, looked up. -/
abbrev take0 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S64x1024, .i32⟩) main_call1_v0) (broadcastInDim S64x1024 ![] bcast_S_S64x1024),
    TRef.binary (TRef.of (T := ⟨S64x1024, .i32⟩) main_v16) (TRef.of (T := ⟨S64x1024, .i32⟩) main_call1_v0) (TRef.of (T := ⟨S64x1024, .i1⟩) main_call1_v1) (cmpi .slt),
    TRef.nullary (TRef.of (T := ⟨S_, .i32⟩) main_call1_c_0) (constantI S_ 32 256#32),
    TRef.unary (TRef.of (T := ⟨S_, .i32⟩) main_call1_c_0) (TRef.of (T := ⟨S64x1024, .i32⟩) main_call1_v2) (broadcastInDim S64x1024 ![] bcast_S_S64x1024),
    TRef.binary (TRef.of (T := ⟨S64x1024, .i32⟩) main_v16) (TRef.of (T := ⟨S64x1024, .i32⟩) main_call1_v2) (TRef.of (T := ⟨S64x1024, .i32⟩) main_call1_v3) addi,
    TRef.ternary (TRef.of (T := ⟨S64x1024, .i1⟩) main_call1_v1) (TRef.of (T := ⟨S64x1024, .i32⟩) main_call1_v3) (TRef.of (T := ⟨S64x1024, .i32⟩) main_v16) (TRef.of (T := ⟨S64x1024, .i32⟩) main_call1_v4) select,
    TRef.unary (TRef.of (T := ⟨S64x1024, .i32⟩) main_call1_v4) (TRef.of (T := ⟨S64x1024x1, .i32⟩) main_call1_v5) (broadcastInDim S64x1024x1 ![0, 1] bcast_S64x1024_S64x1024x1_0_1),
    TRef.nullary (TRef.of (T := ⟨S1, .i32⟩) main_call1_c_1) (constantI S1 32 255#32),
    TRef.nullary (TRef.of (T := ⟨S_, .i32⟩) main_call1_c_2) (constantI S_ 32 0#32),
    TRef.unary (TRef.of (T := ⟨S_, .i32⟩) main_call1_c_2) (TRef.of (T := ⟨S64x1024x1, .i32⟩) main_call1_v6) (broadcastInDim S64x1024x1 ![] bcast_S_S64x1024x1),
    TRef.binary (TRef.of (T := ⟨S64x1024x1, .i32⟩) main_call1_v5) (TRef.of (T := ⟨S64x1024x1, .i32⟩) main_call1_v6) (TRef.of (T := ⟨S64x1024x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S64x1024x1, .i32⟩) main_call1_v9) (broadcastInDim S64x1024x1 ![0, 1, 2] bcast_S1x1x1_S64x1024x1_0_1_2),
    TRef.binary (TRef.of (T := ⟨S64x1024x1, .i32⟩) main_call1_v5) (TRef.of (T := ⟨S64x1024x1, .i32⟩) main_call1_v9) (TRef.of (T := ⟨S64x1024x1, .i1⟩) main_call1_v10) (cmpi .sle),
    TRef.binary (TRef.of (T := ⟨S64x1024x1, .i1⟩) main_call1_v7) (TRef.of (T := ⟨S64x1024x1, .i1⟩) main_call1_v10) (TRef.of (T := ⟨S64x1024x1, .i1⟩) main_call1_v11) andi,
    TRef.nullary (TRef.of (T := ⟨S_, .i1⟩) main_call1_c_3) (constantI S_ 1 1#1),
    TRef.binary (TRef.of (T := ⟨S64x1024x1, .i1⟩) main_call1_v11) (TRef.of (T := ⟨S_, .i1⟩) main_call1_c_3) (TRef.of (T := ⟨S64x1024, .i1⟩) main_call1_v12) (fun x v => Host.reduce IntOp.andi x v reducesTo_S64x1024x1_S64x1024_d2 h_S_),
    TRef.binary (TRef.of (T := ⟨S256x32, .f32⟩) main_v2) (TRef.of (T := ⟨S64x1024x1, .i32⟩) main_call1_v5) (TRef.of (T := ⟨S64x1024x32, .f32⟩) main_call1_v13) (fun x i => Host.gather gather_S256x32_S64x1024x1_S64x1024x32_2_0_n_n_0_2_132 x i),
    TRef.unary (TRef.of (T := ⟨S64x1024, .i1⟩) main_call1_v12) (TRef.of (T := ⟨S64x1024x32, .i1⟩) main_call1_v14) (broadcastInDim S64x1024x32 ![0, 1] bcast_S64x1024_S64x1024x32_0_1),
    TRef.nullary (TRef.of (T := ⟨S_, .f32⟩) main_call1_cst) (constant S_ .f32 0x7FC00000#32),
    TRef.unary (TRef.of (T := ⟨S_, .f32⟩) main_call1_cst) (TRef.of (T := ⟨S64x1024x32, .f32⟩) main_call1_v15) (broadcastInDim S64x1024x32 ![] bcast_S_S64x1024x32),
    TRef.ternary (TRef.of (T := ⟨S64x1024x32, .i1⟩) main_call1_v14) (TRef.of (T := ⟨S64x1024x32, .f32⟩) main_call1_v13) (TRef.of (T := ⟨S64x1024x32, .f32⟩) main_call1_v15) (TRef.of (T := ⟨S64x1024x32, .f32⟩) main_v17) select ]

/-- The buffers these operations write. -/
abbrev take0W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v17]

theorem take0_writes : (take0 : List (HloOp τ sig (Elt F))).map HloOp.writes = take0W.map fun w => {Proc.devRef (τ := τ) .tc w} := rfl
theorem take0_sub : (take0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take0_fresh : (take0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The operations of @main (`upd0`): the stage's loss, and the residual and sum left to the next stage. -/
abbrev upd0 : List (HloOp τ sig (Elt F)) :=
  [ binary main_v17 main_arg0 main_v18 (subf : (⟨S64x1024x32, .f32⟩ : BufTy).Contents (Elt F) → (⟨S64x1024x32, .f32⟩ : BufTy).Contents (Elt F) → (⟨S64x1024x32, .f32⟩ : BufTy).Contents (Elt F)),
    binary main_v18 main_v18 main_v19 (mulf : (⟨S64x1024x32, .f32⟩ : BufTy).Contents (Elt F) → (⟨S64x1024x32, .f32⟩ : BufTy).Contents (Elt F) → (⟨S64x1024x32, .f32⟩ : BufTy).Contents (Elt F)),
    nullary main_cst_3 (constant S_ .f32 0x00000000#32),
    binary main_v19 main_cst_3 main_v20 ((fun x v => Host.reduceAdd x v reducesTo_S64x1024x32_S_d0_1_2 h_S_) : (⟨S64x1024x32, .f32⟩ : BufTy).Contents (Elt F) → (⟨S_, .f32⟩ : BufTy).Contents (Elt F) → (⟨S_, .f32⟩ : BufTy).Contents (Elt F)),
    nullary main_cst_4 (constant S_ .f32 0x4A000000#32),
    binary main_v20 main_cst_4 main_v21 (Host.divf : (⟨S_, .f32⟩ : BufTy).Contents (Elt F) → (⟨S_, .f32⟩ : BufTy).Contents (Elt F) → (⟨S_, .f32⟩ : BufTy).Contents (Elt F)),
    binary main_v17 main_arg0 main_v22 (subf : (⟨S64x1024x32, .f32⟩ : BufTy).Contents (Elt F) → (⟨S64x1024x32, .f32⟩ : BufTy).Contents (Elt F) → (⟨S64x1024x32, .f32⟩ : BufTy).Contents (Elt F)),
    binary main_arg0 main_v22 main_v23 (addf : (⟨S64x1024x32, .f32⟩ : BufTy).Contents (Elt F) → (⟨S64x1024x32, .f32⟩ : BufTy).Contents (Elt F) → (⟨S64x1024x32, .f32⟩ : BufTy).Contents (Elt F)),
    binary main_arg0 main_v23 main_v24 (subf : (⟨S64x1024x32, .f32⟩ : BufTy).Contents (Elt F) → (⟨S64x1024x32, .f32⟩ : BufTy).Contents (Elt F) → (⟨S64x1024x32, .f32⟩ : BufTy).Contents (Elt F)),
    binary main_v0 main_v23 main_v25 (addf : (⟨S64x1024x32, .f32⟩ : BufTy).Contents (Elt F) → (⟨S64x1024x32, .f32⟩ : BufTy).Contents (Elt F) → (⟨S64x1024x32, .f32⟩ : BufTy).Contents (Elt F)) ]

/-- The buffers these operations write. -/
abbrev upd0W : List (Ref sig .tc) := [main_v18, main_v19, main_cst_3, main_v20, main_cst_4, main_v21, main_v22, main_v23, main_v24, main_v25]

theorem upd0_writes : (upd0 : List (HloOp τ sig (Elt F))).map HloOp.writes = upd0W.map fun w => {Proc.devRef (τ := τ) .tc w} := rfl
theorem upd0_sub : (upd0 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., binary_bufs_sub .., binary_bufs_sub ..⟩
theorem upd0_fresh : (upd0 : List (HloOp τ sig (Elt F))).Forall fun op => op.fresh = ∅ :=
  ⟨rfl, rfl, rfl, rfl, rfl, rfl, rfl, rfl, rfl, rfl⟩

/-- The operations of @main (`dist1`): the squared distances of every residual to every code. -/
abbrev dist1 : List (HloOp τ sig (Elt F)) :=
  [ unary main_arg1 main_v26 ((extractStridedSlice S1x256x32 ![1, 0, 0] · slices_S3x256x32_S1x256x32_1_0_0) : (⟨S3x256x32, .f32⟩ : BufTy).Contents (Elt F) → (⟨S1x256x32, .f32⟩ : BufTy).Contents (Elt F)),
    reshape main_v26 main_v27 (rfl : (.f32 : EltTy) = .f32) shapeCasts_S1x256x32_S256x32,
    binary main_v24 main_v24 main_v28 (mulf : (⟨S64x1024x32, .f32⟩ : BufTy).Contents (Elt F) → (⟨S64x1024x32, .f32⟩ : BufTy).Contents (Elt F) → (⟨S64x1024x32, .f32⟩ : BufTy).Contents (Elt F)),
    nullary main_cst_5 (constant S_ .f32 0x00000000#32),
    binary main_v28 main_cst_5 main_v29 ((fun x v => Host.reduceAdd x v reducesTo_S64x1024x32_S64x1024_d2 h_S_) : (⟨S64x1024x32, .f32⟩ : BufTy).Contents (Elt F) → (⟨S_, .f32⟩ : BufTy).Contents (Elt F) → (⟨S64x1024, .f32⟩ : BufTy).Contents (Elt F)),
    unary main_v29 main_v30 (broadcastInDim S64x1024x1 ![0, 1] bcast_S64x1024_S64x1024x1_0_1 : (⟨S64x1024, .f32⟩ : BufTy).Contents (Elt F) → (⟨S64x1024x1, .f32⟩ : BufTy).Contents (Elt F)),
    binary main_v24 main_v27 main_v31 ((fun l r => Host.dotGeneral dot_S64x1024x32_S256x32_S64x1024x256_2_1_01_0_n_n none l r) : (⟨S64x1024x32, .f32⟩ : BufTy).Contents (Elt F) → (⟨S256x32, .f32⟩ : BufTy).Contents (Elt F) → (⟨S64x1024x256, .f32⟩ : BufTy).Contents (Elt F)),
    nullary main_cst_6 (constant S_ .f32 0x40000000#32),
    unary main_cst_6 main_v32 (broadcastInDim S64x1024x256 ![] bcast_S_S64x1024x256 : (⟨S_, .f32⟩ : BufTy).Contents (Elt F) → (⟨S64x1024x256, .f32⟩ : BufTy).Contents (Elt F)),
    binary main_v32 main_v31 main_v33 (mulf : (⟨S64x1024x256, .f32⟩ : BufTy).Contents (Elt F) → (⟨S64x1024x256, .f32⟩ : BufTy).Contents (Elt F) → (⟨S64x1024x256, .f32⟩ : BufTy).Contents (Elt F)),
    unary main_v30 main_v34 (broadcastInDim S64x1024x256 ![0, 1, 2] bcast_S64x1024x1_S64x1024x256_0_1_2 : (⟨S64x1024x1, .f32⟩ : BufTy).Contents (Elt F) → (⟨S64x1024x256, .f32⟩ : BufTy).Contents (Elt F)),
    binary main_v34 main_v33 main_v35 (subf : (⟨S64x1024x256, .f32⟩ : BufTy).Contents (Elt F) → (⟨S64x1024x256, .f32⟩ : BufTy).Contents (Elt F) → (⟨S64x1024x256, .f32⟩ : BufTy).Contents (Elt F)),
    binary main_v27 main_v27 main_v36 (mulf : (⟨S256x32, .f32⟩ : BufTy).Contents (Elt F) → (⟨S256x32, .f32⟩ : BufTy).Contents (Elt F) → (⟨S256x32, .f32⟩ : BufTy).Contents (Elt F)),
    nullary main_cst_7 (constant S_ .f32 0x00000000#32),
    binary main_v36 main_cst_7 main_v37 ((fun x v => Host.reduceAdd x v reducesTo_S256x32_S256_d1 h_S_) : (⟨S256x32, .f32⟩ : BufTy).Contents (Elt F) → (⟨S_, .f32⟩ : BufTy).Contents (Elt F) → (⟨S256, .f32⟩ : BufTy).Contents (Elt F)),
    unary main_v37 main_v38 (broadcastInDim S1x1x256 ![2] bcast_S256_S1x1x256_2 : (⟨S256, .f32⟩ : BufTy).Contents (Elt F) → (⟨S1x1x256, .f32⟩ : BufTy).Contents (Elt F)),
    unary main_v38 main_v39 (broadcastInDim S64x1024x256 ![0, 1, 2] bcast_S1x1x256_S64x1024x256_0_1_2 : (⟨S1x1x256, .f32⟩ : BufTy).Contents (Elt F) → (⟨S64x1024x256, .f32⟩ : BufTy).Contents (Elt F)),
    binary main_v35 main_v39 main_v40 (addf : (⟨S64x1024x256, .f32⟩ : BufTy).Contents (Elt F) → (⟨S64x1024x256, .f32⟩ : BufTy).Contents (Elt F) → (⟨S64x1024x256, .f32⟩ : BufTy).Contents (Elt F)) ]

/-- The buffers these operations write. -/
abbrev dist1W : List (Ref sig .tc) := [main_v26, main_v27, main_v28, main_cst_5, main_v29, main_v30, main_v31, main_cst_6, main_v32, main_v33, main_v34, main_v35, main_v36, main_cst_7, main_v37, main_v38, main_v39, main_v40]

theorem dist1_writes : (dist1 : List (HloOp τ sig (Elt F))).map HloOp.writes = dist1W.map fun w => {Proc.devRef (τ := τ) .tc w} := rfl
theorem dist1_sub : (dist1 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem dist1_fresh : (dist1 : List (HloOp τ sig (Elt F))).Forall fun op => op.fresh = ∅ :=
  ⟨rfl, rfl, rfl, rfl, rfl, rfl, rfl, rfl, rfl, rfl, rfl, rfl, rfl, rfl, rfl, rfl, rfl, rfl⟩

/-- The operations of @main (`argmin1`): the index of the nearest code. -/
abbrev argmin1 : List (HloOp τ sig (Elt F)) :=
  [ TRef.nullary (TRef.of (T := ⟨S64x1024x256, .i32⟩) main_call2_v0) (iotaInDim S64x1024x256 32 2),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S64x1024x256, .f32⟩) main_v40) (TRef.of (T := ⟨S64x1024x256, .i32⟩) main_call2_v0) (TRef.of (T := ⟨S_, .f32⟩) main_call2_cst) (TRef.of (T := ⟨S_, .i32⟩) main_call2_c) (TRef.of (T := ⟨S64x1024, .f32⟩) main_call2_v1_0) (fun x y u v j => (Host.argReduce reducer_argmin_f32_i32 x y u v reducesTo_S64x1024x256_S64x1024_d2 h_S_ j).1),
    TRef.quaternary (TRef.of (T := ⟨S64x1024x256, .f32⟩) main_v40) (TRef.of (T := ⟨S64x1024x256, .i32⟩) main_call2_v0) (TRef.of (T := ⟨S_, .f32⟩) main_call2_cst) (TRef.of (T := ⟨S_, .i32⟩) main_call2_c) (TRef.of (T := ⟨S64x1024, .i32⟩) main_v41) (fun x y u v j => (Host.argReduce reducer_argmin_f32_i32 x y u v reducesTo_S64x1024x256_S64x1024_d2 h_S_ j).2) ]

/-- The buffers these operations write. -/
abbrev argmin1W : List (Ref sig .tc) := [main_call2_v0, main_call2_cst, main_call2_c, main_call2_v1_0, main_v41]

theorem argmin1_writes : (argmin1 : List (HloOp τ sig (Elt F))).map HloOp.writes = argmin1W.map fun w => {Proc.devRef (τ := τ) .tc w} := rfl
theorem argmin1_sub : (argmin1 : List (HloOp τ sig (Elt F))).Forall fun op => op.bufs ⊆ tcRefs τ sig :=
  ⟨nullary_bufs_sub .., nullary_bufs_sub .., nullary_bufs_sub .., quaternary_bufs_sub .., quaternary_bufs_sub ..⟩
theorem argmin1_fresh : (argmin1 : List (HloOp τ sig (Elt F))).Forall fun op => op.fresh = ∅ :=
  ⟨rfl, rfl, rfl, rfl, rfl⟩

/-- The operations of @main (`take1`): the nearest codes, looked up. -/
abbrev take1 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S64x1024, .i32⟩) main_call3_v0) (broadcastInDim S64x1024 ![] bcast_S_S64x1024),
    TRef.binary (TRef.of (T := ⟨S64x1024, .i32⟩) main_v41) (TRef.of (T := ⟨S64x1024, .i32⟩) main_call3_v0) (TRef.of (T := ⟨S64x1024, .i1⟩) main_call3_v1) (cmpi .slt),
    TRef.nullary (TRef.of (T := ⟨S_, .i32⟩) main_call3_c_0) (constantI S_ 32 256#32),
    TRef.unary (TRef.of (T := ⟨S_, .i32⟩) main_call3_c_0) (TRef.of (T := ⟨S64x1024, .i32⟩) main_call3_v2) (broadcastInDim S64x1024 ![] bcast_S_S64x1024),
    TRef.binary (TRef.of (T := ⟨S64x1024, .i32⟩) main_v41) (TRef.of (T := ⟨S64x1024, .i32⟩) main_call3_v2) (TRef.of (T := ⟨S64x1024, .i32⟩) main_call3_v3) addi,
    TRef.ternary (TRef.of (T := ⟨S64x1024, .i1⟩) main_call3_v1) (TRef.of (T := ⟨S64x1024, .i32⟩) main_call3_v3) (TRef.of (T := ⟨S64x1024, .i32⟩) main_v41) (TRef.of (T := ⟨S64x1024, .i32⟩) main_call3_v4) select,
    TRef.unary (TRef.of (T := ⟨S64x1024, .i32⟩) main_call3_v4) (TRef.of (T := ⟨S64x1024x1, .i32⟩) main_call3_v5) (broadcastInDim S64x1024x1 ![0, 1] bcast_S64x1024_S64x1024x1_0_1),
    TRef.nullary (TRef.of (T := ⟨S1, .i32⟩) main_call3_c_1) (constantI S1 32 255#32),
    TRef.nullary (TRef.of (T := ⟨S_, .i32⟩) main_call3_c_2) (constantI S_ 32 0#32),
    TRef.unary (TRef.of (T := ⟨S_, .i32⟩) main_call3_c_2) (TRef.of (T := ⟨S64x1024x1, .i32⟩) main_call3_v6) (broadcastInDim S64x1024x1 ![] bcast_S_S64x1024x1),
    TRef.binary (TRef.of (T := ⟨S64x1024x1, .i32⟩) main_call3_v5) (TRef.of (T := ⟨S64x1024x1, .i32⟩) main_call3_v6) (TRef.of (T := ⟨S64x1024x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S64x1024x1, .i32⟩) main_call3_v9) (broadcastInDim S64x1024x1 ![0, 1, 2] bcast_S1x1x1_S64x1024x1_0_1_2),
    TRef.binary (TRef.of (T := ⟨S64x1024x1, .i32⟩) main_call3_v5) (TRef.of (T := ⟨S64x1024x1, .i32⟩) main_call3_v9) (TRef.of (T := ⟨S64x1024x1, .i1⟩) main_call3_v10) (cmpi .sle),
    TRef.binary (TRef.of (T := ⟨S64x1024x1, .i1⟩) main_call3_v7) (TRef.of (T := ⟨S64x1024x1, .i1⟩) main_call3_v10) (TRef.of (T := ⟨S64x1024x1, .i1⟩) main_call3_v11) andi,
    TRef.nullary (TRef.of (T := ⟨S_, .i1⟩) main_call3_c_3) (constantI S_ 1 1#1),
    TRef.binary (TRef.of (T := ⟨S64x1024x1, .i1⟩) main_call3_v11) (TRef.of (T := ⟨S_, .i1⟩) main_call3_c_3) (TRef.of (T := ⟨S64x1024, .i1⟩) main_call3_v12) (fun x v => Host.reduce IntOp.andi x v reducesTo_S64x1024x1_S64x1024_d2 h_S_),
    TRef.binary (TRef.of (T := ⟨S256x32, .f32⟩) main_v27) (TRef.of (T := ⟨S64x1024x1, .i32⟩) main_call3_v5) (TRef.of (T := ⟨S64x1024x32, .f32⟩) main_call3_v13) (fun x i => Host.gather gather_S256x32_S64x1024x1_S64x1024x32_2_0_n_n_0_2_132 x i),
    TRef.unary (TRef.of (T := ⟨S64x1024, .i1⟩) main_call3_v12) (TRef.of (T := ⟨S64x1024x32, .i1⟩) main_call3_v14) (broadcastInDim S64x1024x32 ![0, 1] bcast_S64x1024_S64x1024x32_0_1),
    TRef.nullary (TRef.of (T := ⟨S_, .f32⟩) main_call3_cst) (constant S_ .f32 0x7FC00000#32),
    TRef.unary (TRef.of (T := ⟨S_, .f32⟩) main_call3_cst) (TRef.of (T := ⟨S64x1024x32, .f32⟩) main_call3_v15) (broadcastInDim S64x1024x32 ![] bcast_S_S64x1024x32),
    TRef.ternary (TRef.of (T := ⟨S64x1024x32, .i1⟩) main_call3_v14) (TRef.of (T := ⟨S64x1024x32, .f32⟩) main_call3_v13) (TRef.of (T := ⟨S64x1024x32, .f32⟩) main_call3_v15) (TRef.of (T := ⟨S64x1024x32, .f32⟩) main_v42) select ]

/-- The buffers these operations write. -/
abbrev take1W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v42]

theorem take1_writes : (take1 : List (HloOp τ sig (Elt F))).map HloOp.writes = take1W.map fun w => {Proc.devRef (τ := τ) .tc w} := rfl
theorem take1_sub : (take1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take1_fresh : (take1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The operations of @main (`upd1`): the stage's loss, and the residual and sum left to the next stage. -/
abbrev upd1 : List (HloOp τ sig (Elt F)) :=
  [ binary main_v42 main_v24 main_v43 (subf : (⟨S64x1024x32, .f32⟩ : BufTy).Contents (Elt F) → (⟨S64x1024x32, .f32⟩ : BufTy).Contents (Elt F) → (⟨S64x1024x32, .f32⟩ : BufTy).Contents (Elt F)),
    binary main_v43 main_v43 main_v44 (mulf : (⟨S64x1024x32, .f32⟩ : BufTy).Contents (Elt F) → (⟨S64x1024x32, .f32⟩ : BufTy).Contents (Elt F) → (⟨S64x1024x32, .f32⟩ : BufTy).Contents (Elt F)),
    nullary main_cst_8 (constant S_ .f32 0x00000000#32),
    binary main_v44 main_cst_8 main_v45 ((fun x v => Host.reduceAdd x v reducesTo_S64x1024x32_S_d0_1_2 h_S_) : (⟨S64x1024x32, .f32⟩ : BufTy).Contents (Elt F) → (⟨S_, .f32⟩ : BufTy).Contents (Elt F) → (⟨S_, .f32⟩ : BufTy).Contents (Elt F)),
    nullary main_cst_9 (constant S_ .f32 0x4A000000#32),
    binary main_v45 main_cst_9 main_v46 (Host.divf : (⟨S_, .f32⟩ : BufTy).Contents (Elt F) → (⟨S_, .f32⟩ : BufTy).Contents (Elt F) → (⟨S_, .f32⟩ : BufTy).Contents (Elt F)),
    binary main_v42 main_v24 main_v47 (subf : (⟨S64x1024x32, .f32⟩ : BufTy).Contents (Elt F) → (⟨S64x1024x32, .f32⟩ : BufTy).Contents (Elt F) → (⟨S64x1024x32, .f32⟩ : BufTy).Contents (Elt F)),
    binary main_v24 main_v47 main_v48 (addf : (⟨S64x1024x32, .f32⟩ : BufTy).Contents (Elt F) → (⟨S64x1024x32, .f32⟩ : BufTy).Contents (Elt F) → (⟨S64x1024x32, .f32⟩ : BufTy).Contents (Elt F)) ]

/-- The buffers these operations write. -/
abbrev upd1W : List (Ref sig .tc) := [main_v43, main_v44, main_cst_8, main_v45, main_cst_9, main_v46, main_v47, main_v48]

theorem upd1_writes : (upd1 : List (HloOp τ sig (Elt F))).map HloOp.writes = upd1W.map fun w => {Proc.devRef (τ := τ) .tc w} := rfl
theorem upd1_sub : (upd1 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub ..⟩
theorem upd1_fresh : (upd1 : List (HloOp τ sig (Elt F))).Forall fun op => op.fresh = ∅ :=
  ⟨rfl, rfl, rfl, rfl, rfl, rfl, rfl, rfl⟩

/-- The operations of @main (`upd1b`): the stage's loss, and the residual and sum left to the next stage. -/
abbrev upd1b : List (HloOp τ sig (Elt F)) :=
  [ binary main_v24 main_v48 main_v49 (subf : (⟨S64x1024x32, .f32⟩ : BufTy).Contents (Elt F) → (⟨S64x1024x32, .f32⟩ : BufTy).Contents (Elt F) → (⟨S64x1024x32, .f32⟩ : BufTy).Contents (Elt F)),
    binary main_v25 main_v48 main_v50 (addf : (⟨S64x1024x32, .f32⟩ : BufTy).Contents (Elt F) → (⟨S64x1024x32, .f32⟩ : BufTy).Contents (Elt F) → (⟨S64x1024x32, .f32⟩ : BufTy).Contents (Elt F)) ]

/-- The buffers these operations write. -/
abbrev upd1bW : List (Ref sig .tc) := [main_v49, main_v50]

theorem upd1b_writes : (upd1b : List (HloOp τ sig (Elt F))).map HloOp.writes = upd1bW.map fun w => {Proc.devRef (τ := τ) .tc w} := rfl
theorem upd1b_sub : (upd1b : List (HloOp τ sig (Elt F))).Forall fun op => op.bufs ⊆ tcRefs τ sig :=
  ⟨binary_bufs_sub .., binary_bufs_sub ..⟩
theorem upd1b_fresh : (upd1b : List (HloOp τ sig (Elt F))).Forall fun op => op.fresh = ∅ :=
  ⟨rfl, rfl⟩

/-- The operations of @main (`dist2`): the squared distances of every residual to every code. -/
abbrev dist2 : List (HloOp τ sig (Elt F)) :=
  [ unary main_arg1 main_v51 ((extractStridedSlice S1x256x32 ![2, 0, 0] · slices_S3x256x32_S1x256x32_2_0_0) : (⟨S3x256x32, .f32⟩ : BufTy).Contents (Elt F) → (⟨S1x256x32, .f32⟩ : BufTy).Contents (Elt F)),
    reshape main_v51 main_v52 (rfl : (.f32 : EltTy) = .f32) shapeCasts_S1x256x32_S256x32,
    binary main_v49 main_v49 main_v53 (mulf : (⟨S64x1024x32, .f32⟩ : BufTy).Contents (Elt F) → (⟨S64x1024x32, .f32⟩ : BufTy).Contents (Elt F) → (⟨S64x1024x32, .f32⟩ : BufTy).Contents (Elt F)),
    nullary main_cst_10 (constant S_ .f32 0x00000000#32),
    binary main_v53 main_cst_10 main_v54 ((fun x v => Host.reduceAdd x v reducesTo_S64x1024x32_S64x1024_d2 h_S_) : (⟨S64x1024x32, .f32⟩ : BufTy).Contents (Elt F) → (⟨S_, .f32⟩ : BufTy).Contents (Elt F) → (⟨S64x1024, .f32⟩ : BufTy).Contents (Elt F)),
    unary main_v54 main_v55 (broadcastInDim S64x1024x1 ![0, 1] bcast_S64x1024_S64x1024x1_0_1 : (⟨S64x1024, .f32⟩ : BufTy).Contents (Elt F) → (⟨S64x1024x1, .f32⟩ : BufTy).Contents (Elt F)),
    binary main_v49 main_v52 main_v56 ((fun l r => Host.dotGeneral dot_S64x1024x32_S256x32_S64x1024x256_2_1_01_0_n_n none l r) : (⟨S64x1024x32, .f32⟩ : BufTy).Contents (Elt F) → (⟨S256x32, .f32⟩ : BufTy).Contents (Elt F) → (⟨S64x1024x256, .f32⟩ : BufTy).Contents (Elt F)),
    nullary main_cst_11 (constant S_ .f32 0x40000000#32),
    unary main_cst_11 main_v57 (broadcastInDim S64x1024x256 ![] bcast_S_S64x1024x256 : (⟨S_, .f32⟩ : BufTy).Contents (Elt F) → (⟨S64x1024x256, .f32⟩ : BufTy).Contents (Elt F)),
    binary main_v57 main_v56 main_v58 (mulf : (⟨S64x1024x256, .f32⟩ : BufTy).Contents (Elt F) → (⟨S64x1024x256, .f32⟩ : BufTy).Contents (Elt F) → (⟨S64x1024x256, .f32⟩ : BufTy).Contents (Elt F)),
    unary main_v55 main_v59 (broadcastInDim S64x1024x256 ![0, 1, 2] bcast_S64x1024x1_S64x1024x256_0_1_2 : (⟨S64x1024x1, .f32⟩ : BufTy).Contents (Elt F) → (⟨S64x1024x256, .f32⟩ : BufTy).Contents (Elt F)),
    binary main_v59 main_v58 main_v60 (subf : (⟨S64x1024x256, .f32⟩ : BufTy).Contents (Elt F) → (⟨S64x1024x256, .f32⟩ : BufTy).Contents (Elt F) → (⟨S64x1024x256, .f32⟩ : BufTy).Contents (Elt F)),
    binary main_v52 main_v52 main_v61 (mulf : (⟨S256x32, .f32⟩ : BufTy).Contents (Elt F) → (⟨S256x32, .f32⟩ : BufTy).Contents (Elt F) → (⟨S256x32, .f32⟩ : BufTy).Contents (Elt F)),
    nullary main_cst_12 (constant S_ .f32 0x00000000#32),
    binary main_v61 main_cst_12 main_v62 ((fun x v => Host.reduceAdd x v reducesTo_S256x32_S256_d1 h_S_) : (⟨S256x32, .f32⟩ : BufTy).Contents (Elt F) → (⟨S_, .f32⟩ : BufTy).Contents (Elt F) → (⟨S256, .f32⟩ : BufTy).Contents (Elt F)),
    unary main_v62 main_v63 (broadcastInDim S1x1x256 ![2] bcast_S256_S1x1x256_2 : (⟨S256, .f32⟩ : BufTy).Contents (Elt F) → (⟨S1x1x256, .f32⟩ : BufTy).Contents (Elt F)),
    unary main_v63 main_v64 (broadcastInDim S64x1024x256 ![0, 1, 2] bcast_S1x1x256_S64x1024x256_0_1_2 : (⟨S1x1x256, .f32⟩ : BufTy).Contents (Elt F) → (⟨S64x1024x256, .f32⟩ : BufTy).Contents (Elt F)),
    binary main_v60 main_v64 main_v65 (addf : (⟨S64x1024x256, .f32⟩ : BufTy).Contents (Elt F) → (⟨S64x1024x256, .f32⟩ : BufTy).Contents (Elt F) → (⟨S64x1024x256, .f32⟩ : BufTy).Contents (Elt F)) ]

/-- The buffers these operations write. -/
abbrev dist2W : List (Ref sig .tc) := [main_v51, main_v52, main_v53, main_cst_10, main_v54, main_v55, main_v56, main_cst_11, main_v57, main_v58, main_v59, main_v60, main_v61, main_cst_12, main_v62, main_v63, main_v64, main_v65]

theorem dist2_writes : (dist2 : List (HloOp τ sig (Elt F))).map HloOp.writes = dist2W.map fun w => {Proc.devRef (τ := τ) .tc w} := rfl
theorem dist2_sub : (dist2 : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
theorem dist2_fresh : (dist2 : List (HloOp τ sig (Elt F))).Forall fun op => op.fresh = ∅ :=
  ⟨rfl, rfl, rfl, rfl, rfl, rfl, rfl, rfl, rfl, rfl, rfl, rfl, rfl, rfl, rfl, rfl, rfl, rfl⟩

/-- The operations of @main (`argmin2`): the index of the nearest code. -/
abbrev argmin2 : List (HloOp τ sig (Elt F)) :=
  [ TRef.nullary (TRef.of (T := ⟨S64x1024x256, .i32⟩) main_call4_v0) (iotaInDim S64x1024x256 32 2),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S64x1024x256, .f32⟩) main_v65) (TRef.of (T := ⟨S64x1024x256, .i32⟩) main_call4_v0) (TRef.of (T := ⟨S_, .f32⟩) main_call4_cst) (TRef.of (T := ⟨S_, .i32⟩) main_call4_c) (TRef.of (T := ⟨S64x1024, .f32⟩) main_call4_v1_0) (fun x y u v j => (Host.argReduce reducer_argmin_f32_i32 x y u v reducesTo_S64x1024x256_S64x1024_d2 h_S_ j).1),
    TRef.quaternary (TRef.of (T := ⟨S64x1024x256, .f32⟩) main_v65) (TRef.of (T := ⟨S64x1024x256, .i32⟩) main_call4_v0) (TRef.of (T := ⟨S_, .f32⟩) main_call4_cst) (TRef.of (T := ⟨S_, .i32⟩) main_call4_c) (TRef.of (T := ⟨S64x1024, .i32⟩) main_v66) (fun x y u v j => (Host.argReduce reducer_argmin_f32_i32 x y u v reducesTo_S64x1024x256_S64x1024_d2 h_S_ j).2) ]

/-- The buffers these operations write. -/
abbrev argmin2W : List (Ref sig .tc) := [main_call4_v0, main_call4_cst, main_call4_c, main_call4_v1_0, main_v66]

theorem argmin2_writes : (argmin2 : List (HloOp τ sig (Elt F))).map HloOp.writes = argmin2W.map fun w => {Proc.devRef (τ := τ) .tc w} := rfl
theorem argmin2_sub : (argmin2 : List (HloOp τ sig (Elt F))).Forall fun op => op.bufs ⊆ tcRefs τ sig :=
  ⟨nullary_bufs_sub .., nullary_bufs_sub .., nullary_bufs_sub .., quaternary_bufs_sub .., quaternary_bufs_sub ..⟩
theorem argmin2_fresh : (argmin2 : List (HloOp τ sig (Elt F))).Forall fun op => op.fresh = ∅ :=
  ⟨rfl, rfl, rfl, rfl, rfl⟩

/-- The operations of @main (`take2`): the nearest codes, looked up. -/
abbrev take2 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S64x1024, .i32⟩) main_call5_v0) (broadcastInDim S64x1024 ![] bcast_S_S64x1024),
    TRef.binary (TRef.of (T := ⟨S64x1024, .i32⟩) main_v66) (TRef.of (T := ⟨S64x1024, .i32⟩) main_call5_v0) (TRef.of (T := ⟨S64x1024, .i1⟩) main_call5_v1) (cmpi .slt),
    TRef.nullary (TRef.of (T := ⟨S_, .i32⟩) main_call5_c_0) (constantI S_ 32 256#32),
    TRef.unary (TRef.of (T := ⟨S_, .i32⟩) main_call5_c_0) (TRef.of (T := ⟨S64x1024, .i32⟩) main_call5_v2) (broadcastInDim S64x1024 ![] bcast_S_S64x1024),
    TRef.binary (TRef.of (T := ⟨S64x1024, .i32⟩) main_v66) (TRef.of (T := ⟨S64x1024, .i32⟩) main_call5_v2) (TRef.of (T := ⟨S64x1024, .i32⟩) main_call5_v3) addi,
    TRef.ternary (TRef.of (T := ⟨S64x1024, .i1⟩) main_call5_v1) (TRef.of (T := ⟨S64x1024, .i32⟩) main_call5_v3) (TRef.of (T := ⟨S64x1024, .i32⟩) main_v66) (TRef.of (T := ⟨S64x1024, .i32⟩) main_call5_v4) select,
    TRef.unary (TRef.of (T := ⟨S64x1024, .i32⟩) main_call5_v4) (TRef.of (T := ⟨S64x1024x1, .i32⟩) main_call5_v5) (broadcastInDim S64x1024x1 ![0, 1] bcast_S64x1024_S64x1024x1_0_1),
    TRef.nullary (TRef.of (T := ⟨S1, .i32⟩) main_call5_c_1) (constantI S1 32 255#32),
    TRef.nullary (TRef.of (T := ⟨S_, .i32⟩) main_call5_c_2) (constantI S_ 32 0#32),
    TRef.unary (TRef.of (T := ⟨S_, .i32⟩) main_call5_c_2) (TRef.of (T := ⟨S64x1024x1, .i32⟩) main_call5_v6) (broadcastInDim S64x1024x1 ![] bcast_S_S64x1024x1),
    TRef.binary (TRef.of (T := ⟨S64x1024x1, .i32⟩) main_call5_v5) (TRef.of (T := ⟨S64x1024x1, .i32⟩) main_call5_v6) (TRef.of (T := ⟨S64x1024x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S64x1024x1, .i32⟩) main_call5_v9) (broadcastInDim S64x1024x1 ![0, 1, 2] bcast_S1x1x1_S64x1024x1_0_1_2),
    TRef.binary (TRef.of (T := ⟨S64x1024x1, .i32⟩) main_call5_v5) (TRef.of (T := ⟨S64x1024x1, .i32⟩) main_call5_v9) (TRef.of (T := ⟨S64x1024x1, .i1⟩) main_call5_v10) (cmpi .sle),
    TRef.binary (TRef.of (T := ⟨S64x1024x1, .i1⟩) main_call5_v7) (TRef.of (T := ⟨S64x1024x1, .i1⟩) main_call5_v10) (TRef.of (T := ⟨S64x1024x1, .i1⟩) main_call5_v11) andi,
    TRef.nullary (TRef.of (T := ⟨S_, .i1⟩) main_call5_c_3) (constantI S_ 1 1#1),
    TRef.binary (TRef.of (T := ⟨S64x1024x1, .i1⟩) main_call5_v11) (TRef.of (T := ⟨S_, .i1⟩) main_call5_c_3) (TRef.of (T := ⟨S64x1024, .i1⟩) main_call5_v12) (fun x v => Host.reduce IntOp.andi x v reducesTo_S64x1024x1_S64x1024_d2 h_S_),
    TRef.binary (TRef.of (T := ⟨S256x32, .f32⟩) main_v52) (TRef.of (T := ⟨S64x1024x1, .i32⟩) main_call5_v5) (TRef.of (T := ⟨S64x1024x32, .f32⟩) main_call5_v13) (fun x i => Host.gather gather_S256x32_S64x1024x1_S64x1024x32_2_0_n_n_0_2_132 x i),
    TRef.unary (TRef.of (T := ⟨S64x1024, .i1⟩) main_call5_v12) (TRef.of (T := ⟨S64x1024x32, .i1⟩) main_call5_v14) (broadcastInDim S64x1024x32 ![0, 1] bcast_S64x1024_S64x1024x32_0_1),
    TRef.nullary (TRef.of (T := ⟨S_, .f32⟩) main_call5_cst) (constant S_ .f32 0x7FC00000#32),
    TRef.unary (TRef.of (T := ⟨S_, .f32⟩) main_call5_cst) (TRef.of (T := ⟨S64x1024x32, .f32⟩) main_call5_v15) (broadcastInDim S64x1024x32 ![] bcast_S_S64x1024x32),
    TRef.ternary (TRef.of (T := ⟨S64x1024x32, .i1⟩) main_call5_v14) (TRef.of (T := ⟨S64x1024x32, .f32⟩) main_call5_v13) (TRef.of (T := ⟨S64x1024x32, .f32⟩) main_call5_v15) (TRef.of (T := ⟨S64x1024x32, .f32⟩) main_v67) select ]

/-- The buffers these operations write. -/
abbrev take2W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v67]

theorem take2_writes : (take2 : List (HloOp τ sig (Elt F))).map HloOp.writes = take2W.map fun w => {Proc.devRef (τ := τ) .tc w} := rfl
theorem take2_sub : (take2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take2_fresh : (take2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The operations of @main (`upd2`): the stage's loss, and the residual and sum left to the next stage. -/
abbrev upd2 : List (HloOp τ sig (Elt F)) :=
  [ binary main_v67 main_v49 main_v68 (subf : (⟨S64x1024x32, .f32⟩ : BufTy).Contents (Elt F) → (⟨S64x1024x32, .f32⟩ : BufTy).Contents (Elt F) → (⟨S64x1024x32, .f32⟩ : BufTy).Contents (Elt F)),
    binary main_v68 main_v68 main_v69 (mulf : (⟨S64x1024x32, .f32⟩ : BufTy).Contents (Elt F) → (⟨S64x1024x32, .f32⟩ : BufTy).Contents (Elt F) → (⟨S64x1024x32, .f32⟩ : BufTy).Contents (Elt F)),
    nullary main_cst_13 (constant S_ .f32 0x00000000#32),
    binary main_v69 main_cst_13 main_v70 ((fun x v => Host.reduceAdd x v reducesTo_S64x1024x32_S_d0_1_2 h_S_) : (⟨S64x1024x32, .f32⟩ : BufTy).Contents (Elt F) → (⟨S_, .f32⟩ : BufTy).Contents (Elt F) → (⟨S_, .f32⟩ : BufTy).Contents (Elt F)),
    nullary main_cst_14 (constant S_ .f32 0x4A000000#32),
    binary main_v70 main_cst_14 main_v71 (Host.divf : (⟨S_, .f32⟩ : BufTy).Contents (Elt F) → (⟨S_, .f32⟩ : BufTy).Contents (Elt F) → (⟨S_, .f32⟩ : BufTy).Contents (Elt F)),
    binary main_v67 main_v49 main_v72 (subf : (⟨S64x1024x32, .f32⟩ : BufTy).Contents (Elt F) → (⟨S64x1024x32, .f32⟩ : BufTy).Contents (Elt F) → (⟨S64x1024x32, .f32⟩ : BufTy).Contents (Elt F)),
    binary main_v49 main_v72 main_v73 (addf : (⟨S64x1024x32, .f32⟩ : BufTy).Contents (Elt F) → (⟨S64x1024x32, .f32⟩ : BufTy).Contents (Elt F) → (⟨S64x1024x32, .f32⟩ : BufTy).Contents (Elt F)),
    binary main_v49 main_v73 main_v74 (subf : (⟨S64x1024x32, .f32⟩ : BufTy).Contents (Elt F) → (⟨S64x1024x32, .f32⟩ : BufTy).Contents (Elt F) → (⟨S64x1024x32, .f32⟩ : BufTy).Contents (Elt F)),
    binary main_v50 main_v73 main_v75 (addf : (⟨S64x1024x32, .f32⟩ : BufTy).Contents (Elt F) → (⟨S64x1024x32, .f32⟩ : BufTy).Contents (Elt F) → (⟨S64x1024x32, .f32⟩ : BufTy).Contents (Elt F)) ]

/-- The buffers these operations write. -/
abbrev upd2W : List (Ref sig .tc) := [main_v68, main_v69, main_cst_13, main_v70, main_cst_14, main_v71, main_v72, main_v73, main_v74, main_v75]

theorem upd2_writes : (upd2 : List (HloOp τ sig (Elt F))).map HloOp.writes = upd2W.map fun w => {Proc.devRef (τ := τ) .tc w} := rfl
theorem upd2_sub : (upd2 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., binary_bufs_sub .., binary_bufs_sub ..⟩
theorem upd2_fresh : (upd2 : List (HloOp τ sig (Elt F))).Forall fun op => op.fresh = ∅ :=
  ⟨rfl, rfl, rfl, rfl, rfl, rfl, rfl, rfl, rfl, rfl⟩

/-- The operations of @main (`results`): the three results gathered from the stages. -/
abbrev results : List (HloOp τ sig (Elt F)) :=
  [ unary main_v16 main_v76 (broadcastInDim S64x1024x1 ![0, 1] bcast_S64x1024_S64x1024x1_0_1 : (⟨S64x1024, .i32⟩ : BufTy).Contents (Elt F) → (⟨S64x1024x1, .i32⟩ : BufTy).Contents (Elt F)),
    unary main_v41 main_v77 (broadcastInDim S64x1024x1 ![0, 1] bcast_S64x1024_S64x1024x1_0_1 : (⟨S64x1024, .i32⟩ : BufTy).Contents (Elt F) → (⟨S64x1024x1, .i32⟩ : BufTy).Contents (Elt F)),
    unary main_v66 main_v78 (broadcastInDim S64x1024x1 ![0, 1] bcast_S64x1024_S64x1024x1_0_1 : (⟨S64x1024, .i32⟩ : BufTy).Contents (Elt F) → (⟨S64x1024x1, .i32⟩ : BufTy).Contents (Elt F)),
    nary ![main_v76, main_v77, main_v78] main_v79 (fun u => (concatenate S64x1024x3 2 [⟨S64x1024x1, (u 0 : (⟨S64x1024x1, .i32⟩ : BufTy).Contents (Elt F))⟩, ⟨S64x1024x1, (u 1 : (⟨S64x1024x1, .i32⟩ : BufTy).Contents (Elt F))⟩, ⟨S64x1024x1, (u 2 : (⟨S64x1024x1, .i32⟩ : BufTy).Contents (Elt F))⟩] concatenates_S64x1024x1_S64x1024x1_S64x1024x1_S64x1024x3_d2 : (⟨S64x1024x3, .i32⟩ : BufTy).Contents (Elt F))),
    unary main_v21 main_v80 (broadcastInDim S1 ![] bcast_S_S1 : (⟨S_, .f32⟩ : BufTy).Contents (Elt F) → (⟨S1, .f32⟩ : BufTy).Contents (Elt F)),
    unary main_v46 main_v81 (broadcastInDim S1 ![] bcast_S_S1 : (⟨S_, .f32⟩ : BufTy).Contents (Elt F) → (⟨S1, .f32⟩ : BufTy).Contents (Elt F)),
    unary main_v71 main_v82 (broadcastInDim S1 ![] bcast_S_S1 : (⟨S_, .f32⟩ : BufTy).Contents (Elt F) → (⟨S1, .f32⟩ : BufTy).Contents (Elt F)),
    nary ![main_v80, main_v81, main_v82] main_v83 (fun u => (concatenate S3 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩] concatenates_S1_S1_S1_S3_d0 : (⟨S3, .f32⟩ : BufTy).Contents (Elt F))) ]

/-- The buffers these operations write. -/
abbrev resultsW : List (Ref sig .tc) := [main_v76, main_v77, main_v78, main_v79, main_v80, main_v81, main_v82, main_v83]

theorem results_writes : (results : List (HloOp τ sig (Elt F))).map HloOp.writes = resultsW.map fun w => {Proc.devRef (τ := τ) .tc w} := rfl
theorem results_sub : (results : List (HloOp τ sig (Elt F))).Forall fun op => op.bufs ⊆ tcRefs τ sig :=
  ⟨unary_bufs_sub .., unary_bufs_sub .., unary_bufs_sub .., nary_bufs_sub .., unary_bufs_sub .., unary_bufs_sub .., unary_bufs_sub .., nary_bufs_sub ..⟩
theorem results_fresh : (results : List (HloOp τ sig (Elt F))).Forall fun op => op.fresh = ∅ :=
  ⟨rfl, rfl, rfl, rfl, rfl, rfl, rfl, rfl⟩

/-- The first printed part of @main. -/
def ops0 : List (HloOp τ sig (Elt F)) := dist0 ++ (argmin0 ++ (take0 ++ (upd0 ++ (dist1 ++ (argmin1 ++ (take1 ++ (upd1)))))))
/-- The second printed part of @main. -/
def ops1 : List (HloOp τ sig (Elt F)) := upd1b ++ (dist2 ++ (argmin2 ++ (take2 ++ (upd2 ++ (results)))))
/-- All of @main's operations. -/
def ops : List (HloOp τ sig (Elt F)) := ops0 ++ ops1

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
/-- @main is that straight line. -/
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide

/-- What holds of every operation of every segment holds of every operation of @main. -/
theorem ops_forall (p : HloOp τ sig (Elt F) → Prop)
    (hdist0 : (dist0 : List (HloOp τ sig (Elt F))).Forall p)
    (hargmin0 : (argmin0 : List (HloOp τ sig (Elt F))).Forall p)
    (htake0 : (take0 : List (HloOp τ sig (Elt F))).Forall p)
    (hupd0 : (upd0 : List (HloOp τ sig (Elt F))).Forall p)
    (hdist1 : (dist1 : List (HloOp τ sig (Elt F))).Forall p)
    (hargmin1 : (argmin1 : List (HloOp τ sig (Elt F))).Forall p)
    (htake1 : (take1 : List (HloOp τ sig (Elt F))).Forall p)
    (hupd1 : (upd1 : List (HloOp τ sig (Elt F))).Forall p)
    (hupd1b : (upd1b : List (HloOp τ sig (Elt F))).Forall p)
    (hdist2 : (dist2 : List (HloOp τ sig (Elt F))).Forall p)
    (hargmin2 : (argmin2 : List (HloOp τ sig (Elt F))).Forall p)
    (htake2 : (take2 : List (HloOp τ sig (Elt F))).Forall p)
    (hupd2 : (upd2 : List (HloOp τ sig (Elt F))).Forall p)
    (hresults : (results : List (HloOp τ sig (Elt F))).Forall p) : ∀ op ∈ (ops : List (HloOp τ sig (Elt F))), p op := by
  intro op h
  simp only [ops, ops0, ops1, List.mem_append, or_assoc] at h
  rcases h with h | h | h | h | h | h | h | h | h | h | h | h | h | h
  exacts [List.forall_iff_forall_mem.mp hdist0 op h, List.forall_iff_forall_mem.mp hargmin0 op h, List.forall_iff_forall_mem.mp htake0 op h, List.forall_iff_forall_mem.mp hupd0 op h, List.forall_iff_forall_mem.mp hdist1 op h, List.forall_iff_forall_mem.mp hargmin1 op h, List.forall_iff_forall_mem.mp htake1 op h, List.forall_iff_forall_mem.mp hupd1 op h, List.forall_iff_forall_mem.mp hupd1b op h, List.forall_iff_forall_mem.mp hdist2 op h, List.forall_iff_forall_mem.mp hargmin2 op h, List.forall_iff_forall_mem.mp htake2 op h, List.forall_iff_forall_mem.mp hupd2 op h, List.forall_iff_forall_mem.mp hresults op h]

/-- Every operation touches TensorCore references only. -/
theorem ops_sub : (ops : List (HloOp τ sig (Elt F))).Forall fun op => op.bufs ⊆ tcRefs τ sig :=
  List.forall_iff_forall_mem.mpr (ops_forall _ dist0_sub argmin0_sub take0_sub upd0_sub dist1_sub argmin1_sub take1_sub upd1_sub upd1b_sub dist2_sub argmin2_sub take2_sub upd2_sub results_sub)
/-- Every operation determines its results. -/
theorem ops_fresh : ∀ op ∈ (ops : List (HloOp τ sig (Elt F))), op.fresh = ∅ :=
  ops_forall _ dist0_fresh argmin0_fresh take0_fresh upd0_fresh dist1_fresh argmin1_fresh take1_fresh upd1_fresh upd1b_fresh dist2_fresh argmin2_fresh take2_fresh upd2_fresh results_fresh

/-- Every execution of @main ends with each buffer at the operations' results folded over the launch contents. -/
theorem run_ops (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => ops_fresh

end Cert.Proof.Ref

end
-- ==== Proof.RefRun.lean ====
/-
  What the reference computes, as functions of its two arguments: one stage of the quantiser as five functions of the
  residual and the stage's codebook (`dist`, `nearest`, `lookup`, `through`, `loss`), the three stages chained, and the run of
  @main ending with the three results at those terms (`run`).
-/
module

public import proofs.«01_k».proof.Proof.RefOps
public import Idealize.ShloMosaic.Lib.StableHlo.RunRead

@[expose] public section

set_option Elab.async false

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The codebook of each stage. -/
def book0 (cb : FVec F S3x256x32 .f32) : FVec F S256x32 .f32 :=
  shapeCast _ (extractStridedSlice S1x256x32 ![0, 0, 0] cb slices_S3x256x32_S1x256x32_0_0_0) shapeCasts_S1x256x32_S256x32
def book1 (cb : FVec F S3x256x32 .f32) : FVec F S256x32 .f32 :=
  shapeCast _ (extractStridedSlice S1x256x32 ![1, 0, 0] cb slices_S3x256x32_S1x256x32_1_0_0) shapeCasts_S1x256x32_S256x32
def book2 (cb : FVec F S3x256x32 .f32) : FVec F S256x32 .f32 :=
  shapeCast _ (extractStridedSlice S1x256x32 ![2, 0, 0] cb slices_S3x256x32_S1x256x32_2_0_0) shapeCasts_S1x256x32_S256x32

/-- The array of zeros the quantised sum starts from. -/
def zeros : FVec F S64x1024x32 .f32 := broadcastInDim S64x1024x32 ![] bcast_S_S64x1024x32 (constant S_ .f32 0x00000000#32)

/-- Squared distance of every residual to every code: |r|² − 2 r·c + |c|². -/
def dist (r : FVec F S64x1024x32 .f32) (c : FVec F S256x32 .f32) : FVec F S64x1024x256 .f32 :=
  addf
    (subf
      (broadcastInDim S64x1024x256 ![0, 1, 2] bcast_S64x1024x1_S64x1024x256_0_1_2
        (broadcastInDim S64x1024x1 ![0, 1] bcast_S64x1024_S64x1024x1_0_1
          (Host.reduceAdd (mulf r r) (constant S_ .f32 0x00000000#32) reducesTo_S64x1024x32_S64x1024_d2 h_S_)))
      (mulf (broadcastInDim S64x1024x256 ![] bcast_S_S64x1024x256 (constant S_ .f32 0x40000000#32))
        (Host.dotGeneral dot_S64x1024x32_S256x32_S64x1024x256_2_1_01_0_n_n none r c)))
    (broadcastInDim S64x1024x256 ![0, 1, 2] bcast_S1x1x256_S64x1024x256_0_1_2
      (broadcastInDim S1x1x256 ![2] bcast_S256_S1x1x256_2
        (Host.reduceAdd (mulf c c) (constant S_ .f32 0x00000000#32) reducesTo_S256x32_S256_d1 h_S_)))

/-- Index of the least of the 256 distances, the first of equals. -/
def nearest (d : FVec F S64x1024x256 .f32) : IVec S64x1024 32 := fun j =>
  (Host.argReduce reducer_argmin_f32_i32 d (iotaInDim S64x1024x256 32 2) (constant S_ .f32 0x7F800000#32) (constantI S_ 32 0#32)
    reducesTo_S64x1024x256_S64x1024_d2 h_S_ j).2

/-- An index below zero counted from the end, with a last axis of one. -/
def wrapped (i : IVec S64x1024 32) : IVec S64x1024x1 32 :=
  broadcastInDim S64x1024x1 ![0, 1] bcast_S64x1024_S64x1024x1_0_1
    (select (cmpi .slt i (broadcastInDim S64x1024 ![] bcast_S_S64x1024 (constantI S_ 32 0#32)))
      (addi i (broadcastInDim S64x1024 ![] bcast_S_S64x1024 (constantI S_ 32 256#32))) i)

/-- Whether an index names a row of the codebook. -/
def inRange (i : IVec S64x1024x1 32) : IVec S64x1024 1 :=
  Host.reduce IntOp.andi
    (andi (cmpi .sge i (broadcastInDim S64x1024x1 ![] bcast_S_S64x1024x1 (constantI S_ 32 0#32)))
      (cmpi .sle i (broadcastInDim S64x1024x1 ![0, 1, 2] bcast_S1x1x1_S64x1024x1_0_1_2
        (broadcastInDim S1x1x1 ![2] bcast_S1_S1x1x1_2 (constantI S1 32 255#32)))))
    (constantI S_ 1 1#1) reducesTo_S64x1024x1_S64x1024_d2 h_S_

/-- The rows of the codebook that the indices name. -/
def lookup (c : FVec F S256x32 .f32) (i : IVec S64x1024 32) : FVec F S64x1024x32 .f32 :=
  select (broadcastInDim S64x1024x32 ![0, 1] bcast_S64x1024_S64x1024x32_0_1 (inRange (wrapped i)))
    (Host.gather gather_S256x32_S64x1024x1_S64x1024x32_2_0_n_n_0_2_132 c (wrapped i))
    (broadcastInDim S64x1024x32 ![] bcast_S_S64x1024x32 (constant S_ .f32 0x7FC00000#32))

/-- The quantised value passed straight through: r + (q − r). -/
def through (r q : FVec F S64x1024x32 .f32) : FVec F S64x1024x32 .f32 := addf r (subf q r)

/-- Mean of the squared differences of a stage. -/
def loss (r q : FVec F S64x1024x32 .f32) : FVec F S_ .f32 :=
  Host.divf (Host.reduceAdd (mulf (subf q r) (subf q r)) (constant S_ .f32 0x00000000#32) reducesTo_S64x1024x32_S_d0_1_2 h_S_)
    (constant S_ .f32 0x4A000000#32)

/-- The indices, the codes and the next residual of one stage. -/
def idx (r : FVec F S64x1024x32 .f32) (c : FVec F S256x32 .f32) : IVec S64x1024 32 := nearest (dist r c)
def quant (r : FVec F S64x1024x32 .f32) (c : FVec F S256x32 .f32) : FVec F S64x1024x32 .f32 := lookup c (idx r c)
def next (r : FVec F S64x1024x32 .f32) (c : FVec F S256x32 .f32) : FVec F S64x1024x32 .f32 := subf r (through r (quant r c))

/-- The residuals that the second and the third stage start from. -/
def res1 (x : FVec F S64x1024x32 .f32) (cb : FVec F S3x256x32 .f32) : FVec F S64x1024x32 .f32 := next x (book0 cb)
def res2 (x : FVec F S64x1024x32 .f32) (cb : FVec F S3x256x32 .f32) : FVec F S64x1024x32 .f32 := next (res1 x cb) (book1 cb)

/-- The first result: the sum of the stages' codes. -/
def out0 (x : FVec F S64x1024x32 .f32) (cb : FVec F S3x256x32 .f32) : FVec F S64x1024x32 .f32 :=
  addf (addf (addf zeros (through x (quant x (book0 cb)))) (through (res1 x cb) (quant (res1 x cb) (book1 cb))))
    (through (res2 x cb) (quant (res2 x cb) (book2 cb)))

/-- Three index arrays side by side on a new last axis. -/
def stackI (a b c : IVec S64x1024 32) : IVec S64x1024x3 32 :=
  concatenate S64x1024x3 2
    [⟨S64x1024x1, broadcastInDim S64x1024x1 ![0, 1] bcast_S64x1024_S64x1024x1_0_1 a⟩,
      ⟨S64x1024x1, broadcastInDim S64x1024x1 ![0, 1] bcast_S64x1024_S64x1024x1_0_1 b⟩,
      ⟨S64x1024x1, broadcastInDim S64x1024x1 ![0, 1] bcast_S64x1024_S64x1024x1_0_1 c⟩]
    concatenates_S64x1024x1_S64x1024x1_S64x1024x1_S64x1024x3_d2

/-- Three numbers as an array of three. -/
def stackF (a b c : FVec F S_ .f32) : FVec F S3 .f32 :=
  concatenate S3 0
    [⟨S1, broadcastInDim S1 ![] bcast_S_S1 a⟩, ⟨S1, broadcastInDim S1 ![] bcast_S_S1 b⟩, ⟨S1, broadcastInDim S1 ![] bcast_S_S1 c⟩]
    concatenates_S1_S1_S1_S3_d0

/-- The second result: the stages' indices. -/
def out1 (x : FVec F S64x1024x32 .f32) (cb : FVec F S3x256x32 .f32) : IVec S64x1024x3 32 :=
  stackI (idx x (book0 cb)) (idx (res1 x cb) (book1 cb)) (idx (res2 x cb) (book2 cb))

/-- The third result: the stages' losses. -/
def out2 (x : FVec F S64x1024x32 .f32) (cb : FVec F S3x256x32 .f32) : FVec F S3 .f32 :=
  stackF (loss x (quant x (book0 cb))) (loss (res1 x cb) (quant (res1 x cb) (book1 cb)))
    (loss (res2 x cb) (quant (res2 x cb) (book2 cb)))

/-! ## Each segment's reads -/

set_option maxRecDepth 8192 in
set_option maxHeartbeats 2000000 in
theorem dist0_main_v15 (V : Valuation τ sig (Elt F)) : after dist0 V (Proc.devRef .tc main_v15) = dist (V (Proc.devRef .tc main_arg0)) (book0 (V (Proc.devRef .tc main_arg1))) := by
  after_results
  rfl

set_option maxRecDepth 8192 in
set_option maxHeartbeats 2000000 in
theorem dist0_main_v2 (V : Valuation τ sig (Elt F)) : after dist0 V (Proc.devRef .tc main_v2) = book0 (V (Proc.devRef .tc main_arg1)) := by
  after_results
  rfl

set_option maxRecDepth 8192 in
set_option maxHeartbeats 2000000 in
theorem dist0_main_v0 (V : Valuation τ sig (Elt F)) : after dist0 V (Proc.devRef .tc main_v0) = zeros := by
  after_results
  rfl

set_option maxRecDepth 8192 in
set_option maxHeartbeats 2000000 in
theorem argmin0_main_v16 (V : Valuation τ sig (Elt F)) : after argmin0 V (Proc.devRef .tc main_v16) = nearest (V (Proc.devRef .tc main_v15)) := by
  simp only [argmin0, TRef.nullary, TRef.unary, TRef.binary, TRef.ternary, TRef.quaternary, TRef.toBuf, TRef.ofBuf, cast_eq]
  after_results
  rfl

set_option maxRecDepth 8192 in
set_option maxHeartbeats 2000000 in
theorem take0_main_v17 (V : Valuation τ sig (Elt F)) : after take0 V (Proc.devRef .tc main_v17) = lookup (V (Proc.devRef .tc main_v2)) (V (Proc.devRef .tc main_v16)) := by
  simp only [take0, TRef.nullary, TRef.unary, TRef.binary, TRef.ternary, TRef.quaternary, TRef.toBuf, TRef.ofBuf, cast_eq]
  after_results
  rfl

set_option maxRecDepth 8192 in
set_option maxHeartbeats 2000000 in
theorem upd0_main_v21 (V : Valuation τ sig (Elt F)) : after upd0 V (Proc.devRef .tc main_v21) = loss (V (Proc.devRef .tc main_arg0)) (V (Proc.devRef .tc main_v17)) := by
  after_results
  rfl

set_option maxRecDepth 8192 in
set_option maxHeartbeats 2000000 in
theorem upd0_main_v24 (V : Valuation τ sig (Elt F)) : after upd0 V (Proc.devRef .tc main_v24) = subf (V (Proc.devRef .tc main_arg0)) (through (V (Proc.devRef .tc main_arg0)) (V (Proc.devRef .tc main_v17))) := by
  after_results
  rfl

set_option maxRecDepth 8192 in
set_option maxHeartbeats 2000000 in
theorem upd0_main_v25 (V : Valuation τ sig (Elt F)) : after upd0 V (Proc.devRef .tc main_v25) = addf (V (Proc.devRef .tc main_v0)) (through (V (Proc.devRef .tc main_arg0)) (V (Proc.devRef .tc main_v17))) := by
  after_results
  rfl

theorem dist0_main_arg0 (V : Valuation τ sig (Elt F)) : after dist0 V (Proc.devRef .tc main_arg0) = V (Proc.devRef .tc main_arg0) :=
  after_unwritten dist0W dist0_writes (by decide) V

theorem dist0_main_arg1 (V : Valuation τ sig (Elt F)) : after dist0 V (Proc.devRef .tc main_arg1) = V (Proc.devRef .tc main_arg1) :=
  after_unwritten dist0W dist0_writes (by decide) V

theorem argmin0_main_arg0 (V : Valuation τ sig (Elt F)) : after argmin0 V (Proc.devRef .tc main_arg0) = V (Proc.devRef .tc main_arg0) :=
  after_unwritten argmin0W argmin0_writes (by decide) V

theorem argmin0_main_arg1 (V : Valuation τ sig (Elt F)) : after argmin0 V (Proc.devRef .tc main_arg1) = V (Proc.devRef .tc main_arg1) :=
  after_unwritten argmin0W argmin0_writes (by decide) V

theorem argmin0_main_v0 (V : Valuation τ sig (Elt F)) : after argmin0 V (Proc.devRef .tc main_v0) = V (Proc.devRef .tc main_v0) :=
  after_unwritten argmin0W argmin0_writes (by decide) V

theorem argmin0_main_v2 (V : Valuation τ sig (Elt F)) : after argmin0 V (Proc.devRef .tc main_v2) = V (Proc.devRef .tc main_v2) :=
  after_unwritten argmin0W argmin0_writes (by decide) V

theorem take0_main_arg0 (V : Valuation τ sig (Elt F)) : after take0 V (Proc.devRef .tc main_arg0) = V (Proc.devRef .tc main_arg0) :=
  after_unwritten take0W take0_writes (by decide) V

theorem take0_main_arg1 (V : Valuation τ sig (Elt F)) : after take0 V (Proc.devRef .tc main_arg1) = V (Proc.devRef .tc main_arg1) :=
  after_unwritten take0W take0_writes (by decide) V

theorem take0_main_v0 (V : Valuation τ sig (Elt F)) : after take0 V (Proc.devRef .tc main_v0) = V (Proc.devRef .tc main_v0) :=
  after_unwritten take0W take0_writes (by decide) V

theorem take0_main_v16 (V : Valuation τ sig (Elt F)) : after take0 V (Proc.devRef .tc main_v16) = V (Proc.devRef .tc main_v16) :=
  after_unwritten take0W take0_writes (by decide) V

theorem upd0_main_arg0 (V : Valuation τ sig (Elt F)) : after upd0 V (Proc.devRef .tc main_arg0) = V (Proc.devRef .tc main_arg0) :=
  after_unwritten upd0W upd0_writes (by decide) V

theorem upd0_main_arg1 (V : Valuation τ sig (Elt F)) : after upd0 V (Proc.devRef .tc main_arg1) = V (Proc.devRef .tc main_arg1) :=
  after_unwritten upd0W upd0_writes (by decide) V

theorem upd0_main_v16 (V : Valuation τ sig (Elt F)) : after upd0 V (Proc.devRef .tc main_v16) = V (Proc.devRef .tc main_v16) :=
  after_unwritten upd0W upd0_writes (by decide) V

set_option maxRecDepth 8192 in
set_option maxHeartbeats 2000000 in
theorem dist1_main_v40 (V : Valuation τ sig (Elt F)) : after dist1 V (Proc.devRef .tc main_v40) = dist (V (Proc.devRef .tc main_v24)) (book1 (V (Proc.devRef .tc main_arg1))) := by
  after_results
  rfl

set_option maxRecDepth 8192 in
set_option maxHeartbeats 2000000 in
theorem dist1_main_v27 (V : Valuation τ sig (Elt F)) : after dist1 V (Proc.devRef .tc main_v27) = book1 (V (Proc.devRef .tc main_arg1)) := by
  after_results
  rfl

set_option maxRecDepth 8192 in
set_option maxHeartbeats 2000000 in
theorem argmin1_main_v41 (V : Valuation τ sig (Elt F)) : after argmin1 V (Proc.devRef .tc main_v41) = nearest (V (Proc.devRef .tc main_v40)) := by
  simp only [argmin1, TRef.nullary, TRef.unary, TRef.binary, TRef.ternary, TRef.quaternary, TRef.toBuf, TRef.ofBuf, cast_eq]
  after_results
  rfl

set_option maxRecDepth 8192 in
set_option maxHeartbeats 2000000 in
theorem take1_main_v42 (V : Valuation τ sig (Elt F)) : after take1 V (Proc.devRef .tc main_v42) = lookup (V (Proc.devRef .tc main_v27)) (V (Proc.devRef .tc main_v41)) := by
  simp only [take1, TRef.nullary, TRef.unary, TRef.binary, TRef.ternary, TRef.quaternary, TRef.toBuf, TRef.ofBuf, cast_eq]
  after_results
  rfl

set_option maxRecDepth 8192 in
set_option maxHeartbeats 2000000 in
theorem upd1_main_v46 (V : Valuation τ sig (Elt F)) : after upd1 V (Proc.devRef .tc main_v46) = loss (V (Proc.devRef .tc main_v24)) (V (Proc.devRef .tc main_v42)) := by
  after_results
  rfl

set_option maxRecDepth 8192 in
set_option maxHeartbeats 2000000 in
theorem upd1_main_v48 (V : Valuation τ sig (Elt F)) : after upd1 V (Proc.devRef .tc main_v48) = through (V (Proc.devRef .tc main_v24)) (V (Proc.devRef .tc main_v42)) := by
  after_results
  rfl

set_option maxRecDepth 8192 in
set_option maxHeartbeats 2000000 in
theorem upd1b_main_v49 (V : Valuation τ sig (Elt F)) : after upd1b V (Proc.devRef .tc main_v49) = subf (V (Proc.devRef .tc main_v24)) (V (Proc.devRef .tc main_v48)) := by
  after_results

set_option maxRecDepth 8192 in
set_option maxHeartbeats 2000000 in
theorem upd1b_main_v50 (V : Valuation τ sig (Elt F)) : after upd1b V (Proc.devRef .tc main_v50) = addf (V (Proc.devRef .tc main_v25)) (V (Proc.devRef .tc main_v48)) := by
  after_results

theorem dist1_main_arg0 (V : Valuation τ sig (Elt F)) : after dist1 V (Proc.devRef .tc main_arg0) = V (Proc.devRef .tc main_arg0) :=
  after_unwritten dist1W dist1_writes (by decide) V

theorem dist1_main_arg1 (V : Valuation τ sig (Elt F)) : after dist1 V (Proc.devRef .tc main_arg1) = V (Proc.devRef .tc main_arg1) :=
  after_unwritten dist1W dist1_writes (by decide) V

theorem dist1_main_v16 (V : Valuation τ sig (Elt F)) : after dist1 V (Proc.devRef .tc main_v16) = V (Proc.devRef .tc main_v16) :=
  after_unwritten dist1W dist1_writes (by decide) V

theorem dist1_main_v21 (V : Valuation τ sig (Elt F)) : after dist1 V (Proc.devRef .tc main_v21) = V (Proc.devRef .tc main_v21) :=
  after_unwritten dist1W dist1_writes (by decide) V

theorem dist1_main_v24 (V : Valuation τ sig (Elt F)) : after dist1 V (Proc.devRef .tc main_v24) = V (Proc.devRef .tc main_v24) :=
  after_unwritten dist1W dist1_writes (by decide) V

theorem dist1_main_v25 (V : Valuation τ sig (Elt F)) : after dist1 V (Proc.devRef .tc main_v25) = V (Proc.devRef .tc main_v25) :=
  after_unwritten dist1W dist1_writes (by decide) V

theorem argmin1_main_arg0 (V : Valuation τ sig (Elt F)) : after argmin1 V (Proc.devRef .tc main_arg0) = V (Proc.devRef .tc main_arg0) :=
  after_unwritten argmin1W argmin1_writes (by decide) V

theorem argmin1_main_arg1 (V : Valuation τ sig (Elt F)) : after argmin1 V (Proc.devRef .tc main_arg1) = V (Proc.devRef .tc main_arg1) :=
  after_unwritten argmin1W argmin1_writes (by decide) V

theorem argmin1_main_v16 (V : Valuation τ sig (Elt F)) : after argmin1 V (Proc.devRef .tc main_v16) = V (Proc.devRef .tc main_v16) :=
  after_unwritten argmin1W argmin1_writes (by decide) V

theorem argmin1_main_v21 (V : Valuation τ sig (Elt F)) : after argmin1 V (Proc.devRef .tc main_v21) = V (Proc.devRef .tc main_v21) :=
  after_unwritten argmin1W argmin1_writes (by decide) V

theorem argmin1_main_v24 (V : Valuation τ sig (Elt F)) : after argmin1 V (Proc.devRef .tc main_v24) = V (Proc.devRef .tc main_v24) :=
  after_unwritten argmin1W argmin1_writes (by decide) V

theorem argmin1_main_v25 (V : Valuation τ sig (Elt F)) : after argmin1 V (Proc.devRef .tc main_v25) = V (Proc.devRef .tc main_v25) :=
  after_unwritten argmin1W argmin1_writes (by decide) V

theorem argmin1_main_v27 (V : Valuation τ sig (Elt F)) : after argmin1 V (Proc.devRef .tc main_v27) = V (Proc.devRef .tc main_v27) :=
  after_unwritten argmin1W argmin1_writes (by decide) V

theorem take1_main_arg0 (V : Valuation τ sig (Elt F)) : after take1 V (Proc.devRef .tc main_arg0) = V (Proc.devRef .tc main_arg0) :=
  after_unwritten take1W take1_writes (by decide) V

theorem take1_main_arg1 (V : Valuation τ sig (Elt F)) : after take1 V (Proc.devRef .tc main_arg1) = V (Proc.devRef .tc main_arg1) :=
  after_unwritten take1W take1_writes (by decide) V

theorem take1_main_v16 (V : Valuation τ sig (Elt F)) : after take1 V (Proc.devRef .tc main_v16) = V (Proc.devRef .tc main_v16) :=
  after_unwritten take1W take1_writes (by decide) V

theorem take1_main_v21 (V : Valuation τ sig (Elt F)) : after take1 V (Proc.devRef .tc main_v21) = V (Proc.devRef .tc main_v21) :=
  after_unwritten take1W take1_writes (by decide) V

theorem take1_main_v24 (V : Valuation τ sig (Elt F)) : after take1 V (Proc.devRef .tc main_v24) = V (Proc.devRef .tc main_v24) :=
  after_unwritten take1W take1_writes (by decide) V

theorem take1_main_v25 (V : Valuation τ sig (Elt F)) : after take1 V (Proc.devRef .tc main_v25) = V (Proc.devRef .tc main_v25) :=
  after_unwritten take1W take1_writes (by decide) V

theorem take1_main_v41 (V : Valuation τ sig (Elt F)) : after take1 V (Proc.devRef .tc main_v41) = V (Proc.devRef .tc main_v41) :=
  after_unwritten take1W take1_writes (by decide) V

theorem upd1_main_arg0 (V : Valuation τ sig (Elt F)) : after upd1 V (Proc.devRef .tc main_arg0) = V (Proc.devRef .tc main_arg0) :=
  after_unwritten upd1W upd1_writes (by decide) V

theorem upd1_main_arg1 (V : Valuation τ sig (Elt F)) : after upd1 V (Proc.devRef .tc main_arg1) = V (Proc.devRef .tc main_arg1) :=
  after_unwritten upd1W upd1_writes (by decide) V

theorem upd1_main_v16 (V : Valuation τ sig (Elt F)) : after upd1 V (Proc.devRef .tc main_v16) = V (Proc.devRef .tc main_v16) :=
  after_unwritten upd1W upd1_writes (by decide) V

theorem upd1_main_v21 (V : Valuation τ sig (Elt F)) : after upd1 V (Proc.devRef .tc main_v21) = V (Proc.devRef .tc main_v21) :=
  after_unwritten upd1W upd1_writes (by decide) V

theorem upd1_main_v41 (V : Valuation τ sig (Elt F)) : after upd1 V (Proc.devRef .tc main_v41) = V (Proc.devRef .tc main_v41) :=
  after_unwritten upd1W upd1_writes (by decide) V

theorem upd1_main_v24 (V : Valuation τ sig (Elt F)) : after upd1 V (Proc.devRef .tc main_v24) = V (Proc.devRef .tc main_v24) :=
  after_unwritten upd1W upd1_writes (by decide) V

theorem upd1_main_v25 (V : Valuation τ sig (Elt F)) : after upd1 V (Proc.devRef .tc main_v25) = V (Proc.devRef .tc main_v25) :=
  after_unwritten upd1W upd1_writes (by decide) V

theorem upd1b_main_arg0 (V : Valuation τ sig (Elt F)) : after upd1b V (Proc.devRef .tc main_arg0) = V (Proc.devRef .tc main_arg0) :=
  after_unwritten upd1bW upd1b_writes (by decide) V

theorem upd1b_main_arg1 (V : Valuation τ sig (Elt F)) : after upd1b V (Proc.devRef .tc main_arg1) = V (Proc.devRef .tc main_arg1) :=
  after_unwritten upd1bW upd1b_writes (by decide) V

theorem upd1b_main_v16 (V : Valuation τ sig (Elt F)) : after upd1b V (Proc.devRef .tc main_v16) = V (Proc.devRef .tc main_v16) :=
  after_unwritten upd1bW upd1b_writes (by decide) V

theorem upd1b_main_v21 (V : Valuation τ sig (Elt F)) : after upd1b V (Proc.devRef .tc main_v21) = V (Proc.devRef .tc main_v21) :=
  after_unwritten upd1bW upd1b_writes (by decide) V

theorem upd1b_main_v41 (V : Valuation τ sig (Elt F)) : after upd1b V (Proc.devRef .tc main_v41) = V (Proc.devRef .tc main_v41) :=
  after_unwritten upd1bW upd1b_writes (by decide) V

theorem upd1b_main_v46 (V : Valuation τ sig (Elt F)) : after upd1b V (Proc.devRef .tc main_v46) = V (Proc.devRef .tc main_v46) :=
  after_unwritten upd1bW upd1b_writes (by decide) V

set_option maxRecDepth 8192 in
set_option maxHeartbeats 2000000 in
theorem dist2_main_v65 (V : Valuation τ sig (Elt F)) : after dist2 V (Proc.devRef .tc main_v65) = dist (V (Proc.devRef .tc main_v49)) (book2 (V (Proc.devRef .tc main_arg1))) := by
  after_results
  rfl

set_option maxRecDepth 8192 in
set_option maxHeartbeats 2000000 in
theorem dist2_main_v52 (V : Valuation τ sig (Elt F)) : after dist2 V (Proc.devRef .tc main_v52) = book2 (V (Proc.devRef .tc main_arg1)) := by
  after_results
  rfl

set_option maxRecDepth 8192 in
set_option maxHeartbeats 2000000 in
theorem argmin2_main_v66 (V : Valuation τ sig (Elt F)) : after argmin2 V (Proc.devRef .tc main_v66) = nearest (V (Proc.devRef .tc main_v65)) := by
  simp only [argmin2, TRef.nullary, TRef.unary, TRef.binary, TRef.ternary, TRef.quaternary, TRef.toBuf, TRef.ofBuf, cast_eq]
  after_results
  rfl

set_option maxRecDepth 8192 in
set_option maxHeartbeats 2000000 in
theorem take2_main_v67 (V : Valuation τ sig (Elt F)) : after take2 V (Proc.devRef .tc main_v67) = lookup (V (Proc.devRef .tc main_v52)) (V (Proc.devRef .tc main_v66)) := by
  simp only [take2, TRef.nullary, TRef.unary, TRef.binary, TRef.ternary, TRef.quaternary, TRef.toBuf, TRef.ofBuf, cast_eq]
  after_results
  rfl

set_option maxRecDepth 8192 in
set_option maxHeartbeats 2000000 in
theorem upd2_main_v71 (V : Valuation τ sig (Elt F)) : after upd2 V (Proc.devRef .tc main_v71) = loss (V (Proc.devRef .tc main_v49)) (V (Proc.devRef .tc main_v67)) := by
  after_results
  rfl

set_option maxRecDepth 8192 in
set_option maxHeartbeats 2000000 in
theorem upd2_main_v75 (V : Valuation τ sig (Elt F)) : after upd2 V (Proc.devRef .tc main_v75) = addf (V (Proc.devRef .tc main_v50)) (through (V (Proc.devRef .tc main_v49)) (V (Proc.devRef .tc main_v67))) := by
  after_results
  rfl

theorem dist2_main_arg0 (V : Valuation τ sig (Elt F)) : after dist2 V (Proc.devRef .tc main_arg0) = V (Proc.devRef .tc main_arg0) :=
  after_unwritten dist2W dist2_writes (by decide) V

theorem dist2_main_arg1 (V : Valuation τ sig (Elt F)) : after dist2 V (Proc.devRef .tc main_arg1) = V (Proc.devRef .tc main_arg1) :=
  after_unwritten dist2W dist2_writes (by decide) V

theorem dist2_main_v16 (V : Valuation τ sig (Elt F)) : after dist2 V (Proc.devRef .tc main_v16) = V (Proc.devRef .tc main_v16) :=
  after_unwritten dist2W dist2_writes (by decide) V

theorem dist2_main_v21 (V : Valuation τ sig (Elt F)) : after dist2 V (Proc.devRef .tc main_v21) = V (Proc.devRef .tc main_v21) :=
  after_unwritten dist2W dist2_writes (by decide) V

theorem dist2_main_v41 (V : Valuation τ sig (Elt F)) : after dist2 V (Proc.devRef .tc main_v41) = V (Proc.devRef .tc main_v41) :=
  after_unwritten dist2W dist2_writes (by decide) V

theorem dist2_main_v46 (V : Valuation τ sig (Elt F)) : after dist2 V (Proc.devRef .tc main_v46) = V (Proc.devRef .tc main_v46) :=
  after_unwritten dist2W dist2_writes (by decide) V

theorem dist2_main_v49 (V : Valuation τ sig (Elt F)) : after dist2 V (Proc.devRef .tc main_v49) = V (Proc.devRef .tc main_v49) :=
  after_unwritten dist2W dist2_writes (by decide) V

theorem dist2_main_v50 (V : Valuation τ sig (Elt F)) : after dist2 V (Proc.devRef .tc main_v50) = V (Proc.devRef .tc main_v50) :=
  after_unwritten dist2W dist2_writes (by decide) V

theorem argmin2_main_arg0 (V : Valuation τ sig (Elt F)) : after argmin2 V (Proc.devRef .tc main_arg0) = V (Proc.devRef .tc main_arg0) :=
  after_unwritten argmin2W argmin2_writes (by decide) V

theorem argmin2_main_arg1 (V : Valuation τ sig (Elt F)) : after argmin2 V (Proc.devRef .tc main_arg1) = V (Proc.devRef .tc main_arg1) :=
  after_unwritten argmin2W argmin2_writes (by decide) V

theorem argmin2_main_v16 (V : Valuation τ sig (Elt F)) : after argmin2 V (Proc.devRef .tc main_v16) = V (Proc.devRef .tc main_v16) :=
  after_unwritten argmin2W argmin2_writes (by decide) V

theorem argmin2_main_v21 (V : Valuation τ sig (Elt F)) : after argmin2 V (Proc.devRef .tc main_v21) = V (Proc.devRef .tc main_v21) :=
  after_unwritten argmin2W argmin2_writes (by decide) V

theorem argmin2_main_v41 (V : Valuation τ sig (Elt F)) : after argmin2 V (Proc.devRef .tc main_v41) = V (Proc.devRef .tc main_v41) :=
  after_unwritten argmin2W argmin2_writes (by decide) V

theorem argmin2_main_v46 (V : Valuation τ sig (Elt F)) : after argmin2 V (Proc.devRef .tc main_v46) = V (Proc.devRef .tc main_v46) :=
  after_unwritten argmin2W argmin2_writes (by decide) V

theorem argmin2_main_v49 (V : Valuation τ sig (Elt F)) : after argmin2 V (Proc.devRef .tc main_v49) = V (Proc.devRef .tc main_v49) :=
  after_unwritten argmin2W argmin2_writes (by decide) V

theorem argmin2_main_v50 (V : Valuation τ sig (Elt F)) : after argmin2 V (Proc.devRef .tc main_v50) = V (Proc.devRef .tc main_v50) :=
  after_unwritten argmin2W argmin2_writes (by decide) V

theorem argmin2_main_v52 (V : Valuation τ sig (Elt F)) : after argmin2 V (Proc.devRef .tc main_v52) = V (Proc.devRef .tc main_v52) :=
  after_unwritten argmin2W argmin2_writes (by decide) V

theorem take2_main_arg0 (V : Valuation τ sig (Elt F)) : after take2 V (Proc.devRef .tc main_arg0) = V (Proc.devRef .tc main_arg0) :=
  after_unwritten take2W take2_writes (by decide) V

theorem take2_main_arg1 (V : Valuation τ sig (Elt F)) : after take2 V (Proc.devRef .tc main_arg1) = V (Proc.devRef .tc main_arg1) :=
  after_unwritten take2W take2_writes (by decide) V

theorem take2_main_v16 (V : Valuation τ sig (Elt F)) : after take2 V (Proc.devRef .tc main_v16) = V (Proc.devRef .tc main_v16) :=
  after_unwritten take2W take2_writes (by decide) V

theorem take2_main_v21 (V : Valuation τ sig (Elt F)) : after take2 V (Proc.devRef .tc main_v21) = V (Proc.devRef .tc main_v21) :=
  after_unwritten take2W take2_writes (by decide) V

theorem take2_main_v41 (V : Valuation τ sig (Elt F)) : after take2 V (Proc.devRef .tc main_v41) = V (Proc.devRef .tc main_v41) :=
  after_unwritten take2W take2_writes (by decide) V

theorem take2_main_v46 (V : Valuation τ sig (Elt F)) : after take2 V (Proc.devRef .tc main_v46) = V (Proc.devRef .tc main_v46) :=
  after_unwritten take2W take2_writes (by decide) V

theorem take2_main_v49 (V : Valuation τ sig (Elt F)) : after take2 V (Proc.devRef .tc main_v49) = V (Proc.devRef .tc main_v49) :=
  after_unwritten take2W take2_writes (by decide) V

theorem take2_main_v50 (V : Valuation τ sig (Elt F)) : after take2 V (Proc.devRef .tc main_v50) = V (Proc.devRef .tc main_v50) :=
  after_unwritten take2W take2_writes (by decide) V

theorem take2_main_v66 (V : Valuation τ sig (Elt F)) : after take2 V (Proc.devRef .tc main_v66) = V (Proc.devRef .tc main_v66) :=
  after_unwritten take2W take2_writes (by decide) V

theorem upd2_main_arg0 (V : Valuation τ sig (Elt F)) : after upd2 V (Proc.devRef .tc main_arg0) = V (Proc.devRef .tc main_arg0) :=
  after_unwritten upd2W upd2_writes (by decide) V

theorem upd2_main_arg1 (V : Valuation τ sig (Elt F)) : after upd2 V (Proc.devRef .tc main_arg1) = V (Proc.devRef .tc main_arg1) :=
  after_unwritten upd2W upd2_writes (by decide) V

theorem upd2_main_v16 (V : Valuation τ sig (Elt F)) : after upd2 V (Proc.devRef .tc main_v16) = V (Proc.devRef .tc main_v16) :=
  after_unwritten upd2W upd2_writes (by decide) V

theorem upd2_main_v21 (V : Valuation τ sig (Elt F)) : after upd2 V (Proc.devRef .tc main_v21) = V (Proc.devRef .tc main_v21) :=
  after_unwritten upd2W upd2_writes (by decide) V

theorem upd2_main_v41 (V : Valuation τ sig (Elt F)) : after upd2 V (Proc.devRef .tc main_v41) = V (Proc.devRef .tc main_v41) :=
  after_unwritten upd2W upd2_writes (by decide) V

theorem upd2_main_v46 (V : Valuation τ sig (Elt F)) : after upd2 V (Proc.devRef .tc main_v46) = V (Proc.devRef .tc main_v46) :=
  after_unwritten upd2W upd2_writes (by decide) V

theorem upd2_main_v66 (V : Valuation τ sig (Elt F)) : after upd2 V (Proc.devRef .tc main_v66) = V (Proc.devRef .tc main_v66) :=
  after_unwritten upd2W upd2_writes (by decide) V

theorem results_main_arg0 (V : Valuation τ sig (Elt F)) : after results V (Proc.devRef .tc main_arg0) = V (Proc.devRef .tc main_arg0) :=
  after_unwritten resultsW results_writes (by decide) V

theorem results_main_arg1 (V : Valuation τ sig (Elt F)) : after results V (Proc.devRef .tc main_arg1) = V (Proc.devRef .tc main_arg1) :=
  after_unwritten resultsW results_writes (by decide) V

theorem results_main_v75 (V : Valuation τ sig (Elt F)) : after results V (Proc.devRef .tc main_v75) = V (Proc.devRef .tc main_v75) :=
  after_unwritten resultsW results_writes (by decide) V

set_option maxRecDepth 8192 in
theorem results_main_v79 (V : Valuation τ sig (Elt F)) : after results V (Proc.devRef .tc main_v79) = stackI (V (Proc.devRef .tc main_v16)) (V (Proc.devRef .tc main_v41)) (V (Proc.devRef .tc main_v66)) := by
  after_results
  rfl

set_option maxRecDepth 8192 in
theorem results_main_v83 (V : Valuation τ sig (Elt F)) : after results V (Proc.devRef .tc main_v83) = stackF (V (Proc.devRef .tc main_v21)) (V (Proc.devRef .tc main_v46)) (V (Proc.devRef .tc main_v71)) := by
  after_results
  rfl

/-! ## The stages' reads -/

/-- The operations of each stage, and all of @main as stages. -/
def stage0 : List (HloOp τ sig (Elt F)) := dist0 ++ (argmin0 ++ (take0 ++ upd0))
def stage1 : List (HloOp τ sig (Elt F)) := dist1 ++ (argmin1 ++ (take1 ++ (upd1 ++ upd1b)))
def stage2 : List (HloOp τ sig (Elt F)) := dist2 ++ (argmin2 ++ (take2 ++ upd2))
theorem ops_stages : (ops : List (HloOp τ sig (Elt F))) = stage0 ++ (stage1 ++ (stage2 ++ results)) := by
  simp only [ops, ops0, ops1, stage0, stage1, stage2, List.append_assoc]

theorem stage0_main_arg0 (V : Valuation τ sig (Elt F)) : after stage0 V (Proc.devRef .tc main_arg0) = (V (Proc.devRef .tc main_arg0)) := by
  simp only [stage0, after_append]
  rw [upd0_main_arg0, take0_main_arg0, argmin0_main_arg0, dist0_main_arg0]
  try rfl

theorem stage0_main_arg1 (V : Valuation τ sig (Elt F)) : after stage0 V (Proc.devRef .tc main_arg1) = (V (Proc.devRef .tc main_arg1)) := by
  simp only [stage0, after_append]
  rw [upd0_main_arg1, take0_main_arg1, argmin0_main_arg1, dist0_main_arg1]
  try rfl

theorem stage0_main_v16 (V : Valuation τ sig (Elt F)) : after stage0 V (Proc.devRef .tc main_v16) = idx (V (Proc.devRef .tc main_arg0)) (book0 (V (Proc.devRef .tc main_arg1))) := by
  simp only [stage0, after_append]
  rw [upd0_main_v16, take0_main_v16, argmin0_main_v16, dist0_main_v15]
  try rfl

theorem stage0_main_v21 (V : Valuation τ sig (Elt F)) : after stage0 V (Proc.devRef .tc main_v21) = loss (V (Proc.devRef .tc main_arg0)) (quant (V (Proc.devRef .tc main_arg0)) (book0 (V (Proc.devRef .tc main_arg1)))) := by
  simp only [stage0, after_append]
  rw [upd0_main_v21, take0_main_arg0, argmin0_main_arg0, dist0_main_arg0, take0_main_v17, argmin0_main_v2, dist0_main_v2, argmin0_main_v16, dist0_main_v15]
  try rfl

theorem stage0_main_v24 (V : Valuation τ sig (Elt F)) : after stage0 V (Proc.devRef .tc main_v24) = next (V (Proc.devRef .tc main_arg0)) (book0 (V (Proc.devRef .tc main_arg1))) := by
  simp only [stage0, after_append]
  rw [upd0_main_v24, take0_main_arg0, argmin0_main_arg0, dist0_main_arg0, take0_main_v17, argmin0_main_v2, dist0_main_v2, argmin0_main_v16, dist0_main_v15]
  try rfl

theorem stage0_main_v25 (V : Valuation τ sig (Elt F)) : after stage0 V (Proc.devRef .tc main_v25) = addf zeros (through (V (Proc.devRef .tc main_arg0)) (quant (V (Proc.devRef .tc main_arg0)) (book0 (V (Proc.devRef .tc main_arg1))))) := by
  simp only [stage0, after_append]
  rw [upd0_main_v25, take0_main_v0, argmin0_main_v0, dist0_main_v0, take0_main_arg0, argmin0_main_arg0, dist0_main_arg0, take0_main_v17, argmin0_main_v2, dist0_main_v2, argmin0_main_v16, dist0_main_v15]
  try rfl

theorem stage1_main_arg0 (V : Valuation τ sig (Elt F)) : after stage1 V (Proc.devRef .tc main_arg0) = (V (Proc.devRef .tc main_arg0)) := by
  simp only [stage1, after_append]
  rw [upd1b_main_arg0, upd1_main_arg0, take1_main_arg0, argmin1_main_arg0, dist1_main_arg0]
  try rfl

theorem stage1_main_arg1 (V : Valuation τ sig (Elt F)) : after stage1 V (Proc.devRef .tc main_arg1) = (V (Proc.devRef .tc main_arg1)) := by
  simp only [stage1, after_append]
  rw [upd1b_main_arg1, upd1_main_arg1, take1_main_arg1, argmin1_main_arg1, dist1_main_arg1]
  try rfl

theorem stage1_main_v16 (V : Valuation τ sig (Elt F)) : after stage1 V (Proc.devRef .tc main_v16) = (V (Proc.devRef .tc main_v16)) := by
  simp only [stage1, after_append]
  rw [upd1b_main_v16, upd1_main_v16, take1_main_v16, argmin1_main_v16, dist1_main_v16]
  try rfl

theorem stage1_main_v21 (V : Valuation τ sig (Elt F)) : after stage1 V (Proc.devRef .tc main_v21) = (V (Proc.devRef .tc main_v21)) := by
  simp only [stage1, after_append]
  rw [upd1b_main_v21, upd1_main_v21, take1_main_v21, argmin1_main_v21, dist1_main_v21]
  try rfl

theorem stage1_main_v41 (V : Valuation τ sig (Elt F)) : after stage1 V (Proc.devRef .tc main_v41) = idx (V (Proc.devRef .tc main_v24)) (book1 (V (Proc.devRef .tc main_arg1))) := by
  simp only [stage1, after_append]
  rw [upd1b_main_v41, upd1_main_v41, take1_main_v41, argmin1_main_v41, dist1_main_v40]
  try rfl

theorem stage1_main_v46 (V : Valuation τ sig (Elt F)) : after stage1 V (Proc.devRef .tc main_v46) = loss (V (Proc.devRef .tc main_v24)) (quant (V (Proc.devRef .tc main_v24)) (book1 (V (Proc.devRef .tc main_arg1)))) := by
  simp only [stage1, after_append]
  rw [upd1b_main_v46, upd1_main_v46, take1_main_v24, argmin1_main_v24, dist1_main_v24, take1_main_v42, argmin1_main_v27, dist1_main_v27, argmin1_main_v41, dist1_main_v40]
  try rfl

theorem stage1_main_v49 (V : Valuation τ sig (Elt F)) : after stage1 V (Proc.devRef .tc main_v49) = next (V (Proc.devRef .tc main_v24)) (book1 (V (Proc.devRef .tc main_arg1))) := by
  simp only [stage1, after_append]
  rw [upd1b_main_v49, upd1_main_v24, upd1_main_v48, take1_main_v24, argmin1_main_v24, dist1_main_v24, take1_main_v42, argmin1_main_v27, dist1_main_v27, argmin1_main_v41, dist1_main_v40]
  try rfl

theorem stage1_main_v50 (V : Valuation τ sig (Elt F)) : after stage1 V (Proc.devRef .tc main_v50) = addf (V (Proc.devRef .tc main_v25)) (through (V (Proc.devRef .tc main_v24)) (quant (V (Proc.devRef .tc main_v24)) (book1 (V (Proc.devRef .tc main_arg1))))) := by
  simp only [stage1, after_append]
  rw [upd1b_main_v50, upd1_main_v25, upd1_main_v48, take1_main_v25, argmin1_main_v25, dist1_main_v25, take1_main_v24, argmin1_main_v24, dist1_main_v24, take1_main_v42, argmin1_main_v27, dist1_main_v27, argmin1_main_v41, dist1_main_v40]
  try rfl

theorem stage2_main_arg0 (V : Valuation τ sig (Elt F)) : after stage2 V (Proc.devRef .tc main_arg0) = (V (Proc.devRef .tc main_arg0)) := by
  simp only [stage2, after_append]
  rw [upd2_main_arg0, take2_main_arg0, argmin2_main_arg0, dist2_main_arg0]
  try rfl

theorem stage2_main_arg1 (V : Valuation τ sig (Elt F)) : after stage2 V (Proc.devRef .tc main_arg1) = (V (Proc.devRef .tc main_arg1)) := by
  simp only [stage2, after_append]
  rw [upd2_main_arg1, take2_main_arg1, argmin2_main_arg1, dist2_main_arg1]
  try rfl

theorem stage2_main_v16 (V : Valuation τ sig (Elt F)) : after stage2 V (Proc.devRef .tc main_v16) = (V (Proc.devRef .tc main_v16)) := by
  simp only [stage2, after_append]
  rw [upd2_main_v16, take2_main_v16, argmin2_main_v16, dist2_main_v16]
  try rfl

theorem stage2_main_v21 (V : Valuation τ sig (Elt F)) : after stage2 V (Proc.devRef .tc main_v21) = (V (Proc.devRef .tc main_v21)) := by
  simp only [stage2, after_append]
  rw [upd2_main_v21, take2_main_v21, argmin2_main_v21, dist2_main_v21]
  try rfl

theorem stage2_main_v41 (V : Valuation τ sig (Elt F)) : after stage2 V (Proc.devRef .tc main_v41) = (V (Proc.devRef .tc main_v41)) := by
  simp only [stage2, after_append]
  rw [upd2_main_v41, take2_main_v41, argmin2_main_v41, dist2_main_v41]
  try rfl

theorem stage2_main_v46 (V : Valuation τ sig (Elt F)) : after stage2 V (Proc.devRef .tc main_v46) = (V (Proc.devRef .tc main_v46)) := by
  simp only [stage2, after_append]
  rw [upd2_main_v46, take2_main_v46, argmin2_main_v46, dist2_main_v46]
  try rfl

theorem stage2_main_v66 (V : Valuation τ sig (Elt F)) : after stage2 V (Proc.devRef .tc main_v66) = idx (V (Proc.devRef .tc main_v49)) (book2 (V (Proc.devRef .tc main_arg1))) := by
  simp only [stage2, after_append]
  rw [upd2_main_v66, take2_main_v66, argmin2_main_v66, dist2_main_v65]
  try rfl

theorem stage2_main_v71 (V : Valuation τ sig (Elt F)) : after stage2 V (Proc.devRef .tc main_v71) = loss (V (Proc.devRef .tc main_v49)) (quant (V (Proc.devRef .tc main_v49)) (book2 (V (Proc.devRef .tc main_arg1)))) := by
  simp only [stage2, after_append]
  rw [upd2_main_v71, take2_main_v49, argmin2_main_v49, dist2_main_v49, take2_main_v67, argmin2_main_v52, dist2_main_v52, argmin2_main_v66, dist2_main_v65]
  try rfl

theorem stage2_main_v75 (V : Valuation τ sig (Elt F)) : after stage2 V (Proc.devRef .tc main_v75) = addf (V (Proc.devRef .tc main_v50)) (through (V (Proc.devRef .tc main_v49)) (quant (V (Proc.devRef .tc main_v49)) (book2 (V (Proc.devRef .tc main_arg1))))) := by
  simp only [stage2, after_append]
  rw [upd2_main_v75, take2_main_v50, argmin2_main_v50, dist2_main_v50, take2_main_v49, argmin2_main_v49, dist2_main_v49, take2_main_v67, argmin2_main_v52, dist2_main_v52, argmin2_main_v66, dist2_main_v65]
  try rfl

/-! ## All of @main -/

theorem ops_main_v75 (V : Valuation τ sig (Elt F)) :
    after ops V (Proc.devRef .tc main_v75) = out0 (V (Proc.devRef .tc main_arg0)) (V (Proc.devRef .tc main_arg1)) := by
  simp only [ops_stages, after_append]
  rw [results_main_v75, stage2_main_v75, stage1_main_v49, stage1_main_v50, stage1_main_arg1, stage0_main_v24, stage0_main_v25,
    stage0_main_arg1]
  rfl
theorem ops_main_v79 (V : Valuation τ sig (Elt F)) :
    after ops V (Proc.devRef .tc main_v79) = out1 (V (Proc.devRef .tc main_arg0)) (V (Proc.devRef .tc main_arg1)) := by
  simp only [ops_stages, after_append]
  rw [results_main_v79, stage2_main_v66, stage2_main_v41, stage2_main_v16, stage1_main_v16, stage1_main_v41, stage1_main_v49,
    stage1_main_arg1, stage0_main_v16, stage0_main_v24, stage0_main_arg1]
  rfl
theorem ops_main_v83 (V : Valuation τ sig (Elt F)) :
    after ops V (Proc.devRef .tc main_v83) = out2 (V (Proc.devRef .tc main_arg0)) (V (Proc.devRef .tc main_arg1)) := by
  simp only [ops_stages, after_append]
  rw [results_main_v83, stage2_main_v71, stage2_main_v46, stage2_main_v21, stage1_main_v21, stage1_main_v46, stage1_main_v49,
    stage1_main_arg1, stage0_main_v21, stage0_main_v24, stage0_main_arg1]
  rfl
theorem ops_main_arg0 (V : Valuation τ sig (Elt F)) :
    after ops V (Proc.devRef .tc main_arg0) = V (Proc.devRef .tc main_arg0) := by
  simp only [ops_stages, after_append]
  rw [results_main_arg0, stage2_main_arg0, stage1_main_arg0, stage0_main_arg0]
theorem ops_main_arg1 (V : Valuation τ sig (Elt F)) :
    after ops V (Proc.devRef .tc main_arg1) = V (Proc.devRef .tc main_arg1) := by
  simp only [ops_stages, after_append]
  rw [results_main_arg1, stage2_main_arg1, stage1_main_arg1, stage0_main_arg1]

/-- From any memory with zero counters every execution of the reference ends with its three results at `out0`, `out1` and
    `out2` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = out0 (m ((c.tc : Thread nD τ).loc main_arg0)) (m ((c.tc : Thread nD τ).loc main_arg1))
      ∧ r.2.mem ((c.tc : Thread nD τ).loc main_v79) = out1 (m ((c.tc : Thread nD τ).loc main_arg0)) (m ((c.tc : Thread nD τ).loc main_arg1))
      ∧ r.2.mem ((c.tc : Thread nD τ).loc main_v83) = out2 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v75).trans (ops_main_v75 _), (h c main_v79).trans (ops_main_v79 _),
      (h c main_v83).trans (ops_main_v83 _), (h c main_arg0).trans (ops_main_arg0 _), (h c main_arg1).trans (ops_main_arg1 _)⟩)
    (run_ops m ρ)

end Cert.Proof.Ref

end
-- ==== Proof.Frames.lean ====
/-
  The reference leaves its arguments as they were and every counter at zero.
-/
module

public import proofs.«01_k».proof.Defs
public import proofs.«01_k».proof.Proof.RefRun
public import Idealize.ShloMosaic.Adequacy
public import Idealize.ShloMosaic.Init

@[expose] public section

noncomputable section

namespace Cert.Proof.Ref

open Cert.ReferenceIdeal Cert.ReferenceIdeal.Gen
open Idealize.ShloMosaic Idealize.ShloMosaic.TcCoe Idealize.SL.Sem

/-- The reference's frame. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).2.2.2.1, (h c).2.2.2.2⟩, sem_eq_zero_of_no_sems (by decide) r.2⟩) (run m ρ)

end Cert.Proof.Ref
-- ==== Proof.KernelRun.lean ====
/-
  The kernel's run with its values: it ends with each of the three results at what the last stretch of host operations leaves
  there (`W5`), and with both arguments unchanged. The set-up of the launches is the frame's.
-/
module

public import proofs.«01_k».proof.Proof.Gen.KernelIdeal.Frame

@[expose] public section

noncomputable section

namespace Cert.Proof.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- Every run of the kernel ends with the results at `W5` and the arguments as they were. -/
theorem run : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_v0_2) = W5 m ρ c (Proc.devRef .tc main_v0_2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v0_0 (by decide)), h c _ (mem_uc main_v0_1 (by decide)), h c _ (mem_uc main_v0_2 (by decide)),
       (h c _ (mem_uc main_arg0 (by decide))).trans (W5_main_arg0 m ρ c),
       (h c _ (mem_uc main_arg1 (by decide))).trans (W5_main_arg1 m ρ c)⟩)

end Cert.Proof.Ker
-- ==== Proof.HostReads.lean ====
/-
  What the kernel's host operations hand to its two launches and make of their results: each launch reads one half of the rows,
  as columns, and the two codebook arrays; the results are the two launches' blocks put back as rows, one half after the other,
  and the sum of their loss rows.
-/
module

public import proofs.«01_k».proof.Proof.Gen.KernelIdeal.Frame
public import Idealize.ShloMosaic.Lib.StableHlo.RunRead

@[expose] public section

set_option maxRecDepth 16384

noncomputable section

namespace Cert.Proof.Ker

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The first half of the rows, one row per column. -/
def colsA (x : FVec F S64x1024x32 .f32) : FVec F S32x32768 .f32 :=
  transpose S32x32768 [1, 0] (shapeCast S32768x32 (extractStridedSlice S32x1024x32 ![0, 0, 0] x slices_S64x1024x32_S32x1024x32_0_0_0)
    shapeCasts_S32x1024x32_S32768x32) transposes_S32768x32_S32x32768_1_0

/-- The second half of the rows, one row per column. -/
def colsB (x : FVec F S64x1024x32 .f32) : FVec F S32x32768 .f32 :=
  transpose S32x32768 [1, 0] (shapeCast S32768x32 (extractStridedSlice S32x1024x32 ![32, 0, 0] x slices_S64x1024x32_S32x1024x32_32_0_0)
    shapeCasts_S32x1024x32_S32768x32) transposes_S32768x32_S32x32768_1_0

/-- The codebooks, each transposed. -/
def flipped (cb : FVec F S3x256x32 .f32) : FVec F S3x32x256 .f32 := transpose S3x32x256 [0, 2, 1] cb transposes_S3x256x32_S3x32x256_0_2_1

/-- A launch's columns put back as rows. -/
def rowsBack (q : FVec F S32x32768 .f32) : FVec F S32x1024x32 .f32 :=
  shapeCast S32x1024x32 (transpose S32768x32 [1, 0] q transposes_S32x32768_S32768x32_1_0) shapeCasts_S32768x32_S32x1024x32

/-- A launch's rows of numbers put back, the three numbers of a row side by side. -/
def numsBack (i : IVec S16x3x2048 32) : IVec S32x1024x3 32 :=
  shapeCast S32x1024x3 (transpose S16x2048x3 [0, 2, 1] i transposes_S16x3x2048_S16x2048x3_0_2_1) shapeCasts_S16x2048x3_S32x1024x3

/-- The three losses of the two launches' loss rows. -/
def losses (a b : FVec F S1x128 .f32) : FVec F S3 .f32 :=
  shapeCast S3 (extractStridedSlice S1x3 ![0, 0]
    (addf (addf (broadcastInDim S1x128 ![] bcast_S_S1x128 (constant S_ .f32 0x00000000#32)) a) b) slices_S1x128_S1x3_0_0) shapeCasts_S1x3_S3

/-- Before the first launch: the transposed codebooks. -/
theorem W1_v0 (c : Dev nD) : W1 m ρ c (Proc.devRef .tc main_call0_v0) = flipped (m ((c.tc : Thread nD τ).loc main_arg1)) := by
  unfold W1; after_results; rfl
/-- Before the first launch: the columns of the first half of the batches. -/
theorem W1_v3 (c : Dev nD) : W1 m ρ c (Proc.devRef .tc main_call0_v3) = colsA (m ((c.tc : Thread nD τ).loc main_arg0)) := by
  unfold W1; after_results; rfl
/-- Before the first launch: the codebooks. -/
theorem W1_arg1 (c : Dev nD) : W1 m ρ c (Proc.devRef .tc main_arg1) = m ((c.tc : Thread nD τ).loc main_arg1) :=
  W1_args m ρ c main_arg1 (by decide)

/-- Before the second launch: the transposed codebooks. -/
theorem W3_v0 (c : Dev nD) : W3 m ρ c (Proc.devRef .tc main_call0_v0) = flipped (m ((c.tc : Thread nD τ).loc main_arg1)) := by
  rw [W3_of m ρ c main_call0_v0 (by decide), W2_of m ρ c main_call0_v0 (by decide), W1_v0]
/-- Before the second launch: the columns of the second half of the batches. -/
theorem W3_v11 (c : Dev nD) : W3 m ρ c (Proc.devRef .tc main_call0_v11) = colsB (m ((c.tc : Thread nD τ).loc main_arg0)) := by
  have e : W2 m ρ c (Proc.devRef .tc main_arg0) = m ((c.tc : Thread nD τ).loc main_arg0) := W2_args m ρ c main_arg0 (by decide)
  rw [← e]
  unfold W3; after_results; rfl
/-- Before the second launch: the codebooks. -/
theorem W3_arg1 (c : Dev nD) : W3 m ρ c (Proc.devRef .tc main_arg1) = m ((c.tc : Thread nD τ).loc main_arg1) :=
  W3_args m ρ c main_arg1 (by decide)
/-- Before the second launch: the first launch's quantised columns, laid out as batches of rows. -/
theorem W3_v6 (c : Dev nD) : W3 m ρ c (Proc.devRef .tc main_call0_v6) = rowsBack ((dat0 (V1 m ρ) c).arrAt 3 cfg0.N) := by
  have e : W2 m ρ c (Proc.devRef .tc main_call0_v4_0) = (dat0 (V1 m ρ) c).arrAt 3 cfg0.N := W2_arr m ρ c 3
  rw [← e]
  unfold W3; after_results; rfl
/-- Before the second launch: the first launch's indices, laid out as batches of rows. -/
theorem W3_v8 (c : Dev nD) : W3 m ρ c (Proc.devRef .tc main_call0_v8) = numsBack ((dat0 (V1 m ρ) c).arrAt 4 cfg0.N) := by
  have e : W2 m ρ c (Proc.devRef .tc main_call0_v4_1) = (dat0 (V1 m ρ) c).arrAt 4 cfg0.N := W2_arr m ρ c 4
  rw [← e]
  unfold W3; after_results; rfl

/-- The first result: both launches' columns as rows. -/
theorem W5_v0_0 (c : Dev nD) : W5 m ρ c (Proc.devRef .tc main_v0_0) =
    concatenate S64x1024x32 0 [⟨S32x1024x32, rowsBack ((dat0 (V1 m ρ) c).arrAt 3 cfg0.N)⟩,
      ⟨S32x1024x32, rowsBack ((dat1 (V3 m ρ) c).arrAt 3 cfg1.N)⟩] concatenates_S32x1024x32_S32x1024x32_S64x1024x32_d0 := by
  have e : W4 m ρ c (Proc.devRef .tc main_call0_v12_0) = (dat1 (V3 m ρ) c).arrAt 3 cfg1.N := W4_arr m ρ c 3
  have e' : W4 m ρ c (Proc.devRef .tc main_call0_v6) = rowsBack ((dat0 (V1 m ρ) c).arrAt 3 cfg0.N) :=
    (W4_of m ρ c main_call0_v6 (by decide)).trans (W3_v6 m ρ c)
  rw [← e, ← e']
  unfold W5; after_results; rfl
/-- The second result: both launches' numbers as rows. -/
theorem W5_v0_1 (c : Dev nD) : W5 m ρ c (Proc.devRef .tc main_v0_1) =
    concatenate S64x1024x3 0 [⟨S32x1024x3, numsBack ((dat0 (V1 m ρ) c).arrAt 4 cfg0.N)⟩,
      ⟨S32x1024x3, numsBack ((dat1 (V3 m ρ) c).arrAt 4 cfg1.N)⟩] concatenates_S32x1024x3_S32x1024x3_S64x1024x3_d0 := by
  have e : W4 m ρ c (Proc.devRef .tc main_call0_v12_1) = (dat1 (V3 m ρ) c).arrAt 4 cfg1.N := W4_arr m ρ c 4
  have e' : W4 m ρ c (Proc.devRef .tc main_call0_v8) = numsBack ((dat0 (V1 m ρ) c).arrAt 4 cfg0.N) :=
    (W4_of m ρ c main_call0_v8 (by decide)).trans (W3_v8 m ρ c)
  rw [← e, ← e']
  unfold W5; after_results; rfl
/-- The third result: the launches' loss rows added. -/
theorem W5_v0_2 (c : Dev nD) : W5 m ρ c (Proc.devRef .tc main_v0_2) =
    losses ((dat0 (V1 m ρ) c).arrAt 5 cfg0.N) ((dat1 (V3 m ρ) c).arrAt 5 cfg1.N) := by
  have e : W4 m ρ c (Proc.devRef .tc main_call0_v12_2) = (dat1 (V3 m ρ) c).arrAt 5 cfg1.N := W4_arr m ρ c 5
  have e' : W4 m ρ c (Proc.devRef .tc main_call0_v4_2) = (dat0 (V1 m ρ) c).arrAt 5 cfg0.N :=
    (W4_of m ρ c main_call0_v4_2 (by decide)).trans ((W3_of m ρ c main_call0_v4_2 (by decide)).trans (W2_arr m ρ c 5))
  rw [← e, ← e']
  unfold W5; after_results; rfl

end Cert.Proof.Ker
-- ==== Proof.Stage.lean ====
/-
  One stage of the kernel's quantiser on one block of 2048 columns, as functions of the block's residual `r` (one column per
  row of the input), the stage's codebook plane `c` and the transposed plane `ct`: the distances, the nearest codeword,
  its lookup by lane gathers, and the stage's share of the loss.
-/
module

public import proofs.«01_k».proof.Proof.Gen.KernelIdeal.Frame

@[expose] public section

noncomputable section

namespace Cert.Proof.Blk

open Cert.KernelIdeal Cert.KernelIdeal.Gen
open Idealize.ShloMosaic Idealize.ShloMosaic.TcCoe Idealize.SL.Sem

variable {F : FTy → Type} [FloatOps F]

/-- A codebook plane as a matrix. -/
def book (c : Vec F S1x256x32 .f32) : FVec F S256x32 .f32 := shapeCast S256x32 c shapeCasts_S1x256x32_S256x32

/-- A transposed codebook plane as a matrix. -/
def bookT (ct : Vec F S1x32x256 .f32) : FVec F S32x256 .f32 := shapeCast S32x256 ct shapeCasts_S1x32x256_S32x256

/-- The squared norm of each codeword. -/
def norms (c : FVec F S256x32 .f32) : FVec F S256x1 .f32 :=
  shapeCast S256x1 (multiReduction .add [1] S256 (mulf c c) 0x00000000#32 reduces_S256x32_S256 (.inl rfl) rfl) shapeCasts_S256_S256x1

/-- The squared elements of a column folded in half: rows `a` and `a + 16`. -/
def half (r : FVec F S32x2048 .f32) : FVec F S16x2048 .f32 :=
  addf (extractStridedSlice S16x2048 ![0, 0] (mulf r r) slices_S32x2048_o0_0_S16x2048)
    (extractStridedSlice S16x2048 ![16, 0] (mulf r r) slices_S32x2048_o16_0_S16x2048)

/-- Folded once more: rows `a` and `a + 8` of `half`. -/
def quarter (r : FVec F S32x2048 .f32) : FVec F S8x2048 .f32 :=
  addf (extractStridedSlice S8x2048 ![0, 0] (half r) slices_S16x2048_o0_0_S8x2048)
    (extractStridedSlice S8x2048 ![8, 0] (half r) slices_S16x2048_o8_0_S8x2048)

/-- The squared norm of each column of the residual. -/
def sqn (r : FVec F S32x2048 .f32) : FVec F S1x2048 .f32 :=
  shapeCast S1x2048 (multiReduction .add [0] S2048 (quarter r) 0x00000000#32 reduces_S8x2048_S2048 (.inl rfl) rfl) shapeCasts_S2048_S1x2048

/-- The products of the codewords times `-2` with the columns. -/
def cross (r : FVec F S32x2048 .f32) (c : FVec F S256x32 .f32) : FVec F S256x2048 .f32 :=
  matmul dot_S256x32_S32x2048_S256x2048_1_0_0_1_n_n none (mulf c (broadcast S256x32 (Scalar.ofBits .f32 0xC0000000#32 : F .f32))) r
    (constant S256x2048 .f32 0x00000000#32)

/-- The distances: entry `(k, j)` is of codeword `k` to column `j`. -/
def dist (r : FVec F S32x2048 .f32) (c : FVec F S256x32 .f32) : FVec F S256x2048 .f32 :=
  addf (addf (broadcastTo S256x2048 (sqn r) broadcasts_S1x2048_S256x2048) (cross r c))
    (broadcastTo S256x2048 (norms c) broadcasts_S256x1_S256x2048)

/-- The least distance of each column. -/
def least (d : FVec F S256x2048 .f32) : FVec F S2048 .f32 :=
  multiReduction .minimumf [0] S2048 d 0x7F800000#32 reduces_S256x2048_S2048 (.inl rfl) rfl

/-- The codeword's number where its distance is the least of its column, 256 elsewhere. -/
def cand (d : FVec F S256x2048 .f32) : IVec S256x2048 32 :=
  select (cmpf .oeq d (broadcastTo S256x2048 (shapeCast S1x2048 (least d) shapeCasts_S2048_S1x2048) broadcasts_S1x2048_S256x2048))
    (iota .tc S256x2048 32 [0] iota_S256x2048_d0_w32) (broadcast S256x2048 256#32)

/-- The number of the nearest codeword of each column. -/
def idx (d : FVec F S256x2048 .f32) : IVec S2048 32 :=
  multiReductionI .minsi [0] S2048 (cand d) 2147483647#32 reduces_S256x2048_S2048 rfl

/-- The numbers repeated down the 32 rows. -/
def idxb (i : IVec S2048 32) : IVec S32x2048 32 :=
  broadcastTo S32x2048 (shapeCast S1x2048 (shapeCast S1x2048 i shapeCasts_S2048_S1x2048) shapeCasts_S1x2048_S1x2048) broadcasts_S1x2048_S32x2048

/-- Their low seven bits. -/
def low (i : IVec S2048 32) : IVec S32x2048 32 := andi (idxb i) (broadcast S32x2048 127#32)

/-- One tile of 128 lanes gathered out of `src`. -/
def pick (src : FVec F S32x128 .f32) (l : IVec S32x2048 32) (o : Fin 2 → Nat) (h : S32x2048.Slices o S32x128) : FVec F S32x128 .f32 :=
  dynamicGather 1 src (shapeCast S32x128 (shapeCast S32x128x1
    (select (cmpi .slt (extractStridedSlice S32x128 o l h) (broadcast S32x128 0#32))
      (addi (extractStridedSlice S32x128 o l h) (broadcast S32x128 128#32)) (extractStridedSlice S32x128 o l h))
    shapeCasts_S32x128_S32x128x1) shapeCasts_S32x128x1_S32x128)

/-- The sixteen tiles side by side. -/
def lanes (src : FVec F S32x128 .f32) (low : IVec S32x2048 32) : FVec F S32x2048 .f32 :=
  concatenate S32x2048 1 [
    ⟨S32x128, pick src low ![0, 0] slices_S32x2048_o0_0_S32x128⟩,
    ⟨S32x128, pick src low ![0, 128] slices_S32x2048_o0_128_S32x128⟩,
    ⟨S32x128, pick src low ![0, 256] slices_S32x2048_o0_256_S32x128⟩,
    ⟨S32x128, pick src low ![0, 384] slices_S32x2048_o0_384_S32x128⟩,
    ⟨S32x128, pick src low ![0, 512] slices_S32x2048_o0_512_S32x128⟩,
    ⟨S32x128, pick src low ![0, 640] slices_S32x2048_o0_640_S32x128⟩,
    ⟨S32x128, pick src low ![0, 768] slices_S32x2048_o0_768_S32x128⟩,
    ⟨S32x128, pick src low ![0, 896] slices_S32x2048_o0_896_S32x128⟩,
    ⟨S32x128, pick src low ![0, 1024] slices_S32x2048_o0_1024_S32x128⟩,
    ⟨S32x128, pick src low ![0, 1152] slices_S32x2048_o0_1152_S32x128⟩,
    ⟨S32x128, pick src low ![0, 1280] slices_S32x2048_o0_1280_S32x128⟩,
    ⟨S32x128, pick src low ![0, 1408] slices_S32x2048_o0_1408_S32x128⟩,
    ⟨S32x128, pick src low ![0, 1536] slices_S32x2048_o0_1536_S32x128⟩,
    ⟨S32x128, pick src low ![0, 1664] slices_S32x2048_o0_1664_S32x128⟩,
    ⟨S32x128, pick src low ![0, 1792] slices_S32x2048_o0_1792_S32x128⟩,
    ⟨S32x128, pick src low ![0, 1920] slices_S32x2048_o0_1920_S32x128⟩]
    concatenates_S32x128_S32x128_S32x128_S32x128_S32x128_S32x128_S32x128_S32x128_S32x128_S32x128_S32x128_S32x128_S32x128_S32x128_S32x128_S32x128_S32x2048_d1

/-- The nearest codewords: out of the first 128 codewords or the last by the seventh bit. -/
def quant (ct : FVec F S32x256 .f32) (i : IVec S2048 32) : FVec F S32x2048 .f32 :=
  select (cmpi .slt (idxb i) (broadcast S32x2048 128#32))
    (lanes (extractStridedSlice S32x128 ![0, 0] ct slices_S32x256_o0_0_S32x128) (low i))
    (lanes (extractStridedSlice S32x128 ![0, 128] ct slices_S32x256_o0_128_S32x128) (low i))

/-- `r + (q - r)`. -/
def through (r q : FVec F S32x2048 .f32) : FVec F S32x2048 .f32 := addf r (subf q r)

/-- The block's sum of the squared differences, times `2⁻²¹`. -/
def lossOf (r q : FVec F S32x2048 .f32) : F .f32 :=
  Scalar.mulf (extractAt ![0, 0, 0] (shapeCast S1x1x1 (multiReduction .add [1, 2] S1
    (shapeCast S1x32x2048 (mulf (subf q r) (subf q r)) shapeCasts_S32x2048_S1x32x2048) 0x00000000#32 reduces_S1x32x2048_S1 (.inl rfl) rfl)
    shapeCasts_S1_S1x1x1) inpos_S1x1x1_p0_0_0) (Scalar.ofBits .f32 0x35000000#32)

/-- The number of each of the 128 lanes of the loss row. -/
def lane : IVec S1x128 32 := iota .tc S1x128 32 [1] iota_S1x128_d1_w32

/-- A loss on the lane numbered `k`, zero elsewhere. -/
def onLane (k : BitVec 32) (s : F .f32) : FVec F S1x128 .f32 :=
  select (cmpi .eq lane (broadcast S1x128 k)) (broadcast S1x128 s) (broadcast S1x128 (Scalar.ofBits .f32 0x00000000#32))

/-- A stage's number of the nearest codeword. -/
def num (r : FVec F S32x2048 .f32) (c : Vec F S1x256x32 .f32) : IVec S2048 32 := idx (dist r (book c))

/-- A stage's nearest codeword. -/
def near (r : FVec F S32x2048 .f32) (c : Vec F S1x256x32 .f32) (ct : Vec F S1x32x256 .f32) : FVec F S32x2048 .f32 :=
  quant (bookT ct) (num r c)

/-- A stage's contribution to the result. -/
def add (r : FVec F S32x2048 .f32) (c : Vec F S1x256x32 .f32) (ct : Vec F S1x32x256 .f32) : FVec F S32x2048 .f32 :=
  through r (near r c ct)

/-- The residual after a stage. -/
def next (r : FVec F S32x2048 .f32) (c : Vec F S1x256x32 .f32) (ct : Vec F S1x32x256 .f32) : FVec F S32x2048 .f32 :=
  subf r (add r c ct)

/-- A stage's loss on its lane. -/
def loss (k : BitVec 32) (r : FVec F S32x2048 .f32) (c : Vec F S1x256x32 .f32) (ct : Vec F S1x32x256 .f32) : FVec F S1x128 .f32 :=
  onLane k (lossOf r (near r c ct))

/-- The block's share of the first result, from its columns and the six codebook planes. -/
def blockQ (x : Vec F S32x2048 .f32) (c0 c1 c2 : Vec F S1x256x32 .f32) (t0 t1 t2 : Vec F S1x32x256 .f32) : FVec F S32x2048 .f32 :=
  addf (addf (addf (broadcast S32x2048 (Scalar.ofBits .f32 0x00000000#32)) (add x c0 t0)) (add (next x c0 t0) c1 t1))
    (add (next (next x c0 t0) c1 t1) c2 t2)

/-- The loss row after the block, from the row `l` before it. -/
def blockL (l : Vec F S1x128 .f32) (x : Vec F S32x2048 .f32) (c0 c1 c2 : Vec F S1x256x32 .f32) (t0 t1 t2 : Vec F S1x32x256 .f32) : FVec F S1x128 .f32 :=
  addf (addf (addf l (loss 0#32 x c0 t0)) (loss 1#32 (next x c0 t0) c1 t1)) (loss 2#32 (next (next x c0 t0) c1 t1) c2 t2)

/-- The block's numbers of one stage, as the row that is stored. -/
def row (i : IVec S2048 32) : IVec S1x1x2048 32 := shapeCast S1x1x2048 i shapeCasts_S2048_S1x1x2048

end Cert.Proof.Blk
-- ==== Proof.Block.lean ====
/-
  What one grid point of the kernel leaves in its three output buffers, in both launches: `blockQ`, the rows of numbers, and `blockL` of the
  point's block of columns and the two codebook arrays (Stage.lean). At the first point of a launch the loss row starts from zero,
  at a later one from what the point before left.
-/
module

public import proofs.«01_k».proof.Proof.Stage
public import Idealize.ShloMosaic.Lib.Pipeline.ValueKit

@[expose] public section

set_option maxRecDepth 16384

noncomputable section

namespace Cert.Proof.Blk

open Cert.KernelIdeal Cert.KernelIdeal.Gen
open Idealize.ShloMosaic Idealize.ShloMosaic.TcCoe Idealize.SL.Sem

variable {F : FTy → Type} [FloatOps F]

/-- The offsets of a view that starts at the origin. -/
theorem hz : (![0, 0] : Fin 2 → Nat) = fun _ => 0 := funext fun a => by fin_cases a <;> rfl

/-- Plane `k` of the codebooks, as the kernel loads it. -/
abbrev c0 (cb : Vec F S3x256x32 .f32) : Vec F S1x256x32 .f32 := View.ld cb (Rect.unit ![0, 0, 0] S1x256x32.size inb_S3x256x32_S1x256x32_0_0_0)
/-- The first stage's codebook, transposed. -/
abbrev t0 (cbt : Vec F S3x32x256 .f32) : Vec F S1x32x256 .f32 := View.ld cbt (Rect.unit ![0, 0, 0] S1x32x256.size inb_S3x32x256_S1x32x256_0_0_0)
/-- The second stage's codebook. -/
abbrev c1 (cb : Vec F S3x256x32 .f32) : Vec F S1x256x32 .f32 := View.ld cb (Rect.unit ![1, 0, 0] S1x256x32.size inb_S3x256x32_S1x256x32_1_0_0)
/-- The second stage's codebook, transposed. -/
abbrev t1 (cbt : Vec F S3x32x256 .f32) : Vec F S1x32x256 .f32 := View.ld cbt (Rect.unit ![1, 0, 0] S1x32x256.size inb_S3x32x256_S1x32x256_1_0_0)
/-- The third stage's codebook. -/
abbrev c2 (cb : Vec F S3x256x32 .f32) : Vec F S1x256x32 .f32 := View.ld cb (Rect.unit ![2, 0, 0] S1x256x32.size inb_S3x256x32_S1x256x32_2_0_0)
/-- The third stage's codebook, transposed. -/
abbrev t2 (cbt : Vec F S3x32x256 .f32) : Vec F S1x32x256 .f32 := View.ld cbt (Rect.unit ![2, 0, 0] S1x32x256.size inb_S3x32x256_S1x32x256_2_0_0)
/-- The zero row. -/
def zeroL : Vec F S1x128 .f32 := broadcast S1x128 (Scalar.ofBits .f32 0x00000000#32)

/-- The numbers of the nearest codewords of the three stages, one row each. -/
def rows (i0 i1 i2 : IVec S2048 32) : Vec F S1x3x2048 .i32 := fun y =>
  if (y 1).val = 0 then i0 (ix1 (y 2)) else if (y 1).val = 1 then i1 (ix1 (y 2)) else i2 (ix1 (y 2))

/-- A row of numbers stored as plane, read at its position. -/
theorem row_apply (i : IVec S2048 32) (x : S1x1x2048.Idx) : row i x = i (ix1 (x 2)) := by
  pointwise [row]

/-- The three stored rows, read back. -/
theorem canonI (i0 i1 i2 : IVec S2048 32) :
    View.canon (Val := Elt F) (e := .i32) [⟨Rect.unit ![0, 2, 0] ![1, 1, 2048] inb_S1x3x2048_S1x1x2048_0_2_0, row i2⟩,
        ⟨Rect.unit ![0, 1, 0] ![1, 1, 2048] inb_S1x3x2048_S1x1x2048_0_1_0, row i1⟩,
        ⟨Rect.unit ![0, 0, 0] ![1, 1, 2048] inb_S1x3x2048_S1x1x2048_0_0_0, row i0⟩] = rows i0 i1 i2 := by
  funext y
  canon_tiles z h
  · rw [row_apply]; unfold rows
    rw [if_neg (by omega), if_neg (by omega)]
    exact congrArg i2 (congrArg ix1 (Fin.ext h2.symm))
  · rw [row_apply]; unfold rows
    rw [if_neg (by omega), if_pos (by omega)]
    exact congrArg i1 (congrArg ix1 (Fin.ext h2.symm))
  · rw [row_apply]; unfold rows
    rw [if_pos (by omega)]
    exact congrArg i0 (congrArg ix1 (Fin.ext h2.symm))

variable (c : Dev nD) (i : grid0.Coords) (arg1 : Memref sig .tc .vmem S32x2048 .f32) (harg1 : arg1.IsWhole) (arg2 : Memref sig .tc .vmem S3x256x32 .f32) (harg2 : arg2.IsWhole) (arg3 : Memref sig .tc .vmem S3x32x256 .f32) (harg3 : arg3.IsWhole) (arg4 : Memref sig .tc .vmem S32x2048 .f32) (harg4 : arg4.IsWhole) (arg5 : Memref sig .tc .vmem S1x3x2048 .i32) (harg5 : arg5.IsWhole) (arg6 : Memref sig .tc .vmem S1x128 .f32) (harg6 : arg6.IsWhole)
  (x : Vec F S32x2048 .f32) (cb : Vec F S3x256x32 .f32) (cbt : Vec F S3x32x256 .f32) (xo : Vec F S1x128 .f32)

/-- Launch 0, the first point: the first result block. -/
theorem out0_A_3_eq (hc : cond0_0 i) : out0_A_3 c i arg1 harg1 arg2 harg2 arg3 harg3 arg4 harg4 arg5 harg5 arg6 harg6 hc x cb cbt = blockQ x (c0 cb) (c1 cb) (c2 cb) (t0 cbt) (t1 cbt) (t2 cbt) := by
  change _ = blockQ x (View.ld cb (Rect.unit ![0, 0, 0] S1x256x32.size inb_S3x256x32_S1x256x32_0_0_0))
    (View.ld cb (Rect.unit ![1, 0, 0] S1x256x32.size inb_S3x256x32_S1x256x32_1_0_0))
    (View.ld cb (Rect.unit ![2, 0, 0] S1x256x32.size inb_S3x256x32_S1x256x32_2_0_0))
    (View.ld cbt (Rect.unit ![0, 0, 0] S1x32x256.size inb_S3x32x256_S1x32x256_0_0_0))
    (View.ld cbt (Rect.unit ![1, 0, 0] S1x32x256.size inb_S3x32x256_S1x32x256_1_0_0))
    (View.ld cbt (Rect.unit ![2, 0, 0] S1x32x256.size inb_S3x32x256_S1x32x256_2_0_0))
  unfold out0_A_3
  rw [View.read_writes_eq_canon _ _ _ (cover0_A_3 c i arg1 harg1 arg2 harg2 arg3 harg3 arg4 harg4 arg5 harg5 arg6 harg6 hc x cb cbt)]
  unfold kernelRun0_A
  dsimp only
  rw [View.canon_unit_zero hz]
  sl_unfold_words
  simp only [View.readAt_eq_ld, harg1.read_unread, harg2.read_unread, harg3.read_unread, View.ld_unit_zero (S := S32x2048) hz]
  refine Eq.trans ?_ (congrArg (fun x => blockQ x _ _ _ _ _ _) (shapeCast_self x shapeCasts_S32x2048_S32x2048))
  rfl

/-- Launch 0, the first point: the numbers. -/
theorem out0_A_4_eq (hc : cond0_0 i) : out0_A_4 c i arg1 harg1 arg2 harg2 arg3 harg3 arg4 harg4 arg5 harg5 arg6 harg6 hc x cb cbt = rows (num x (c0 cb)) (num (next x (c0 cb) (t0 cbt)) (c1 cb)) (num (next (next x (c0 cb) (t0 cbt)) (c1 cb) (t1 cbt)) (c2 cb)) := by
  change _ = rows (num x (View.ld cb (Rect.unit ![0, 0, 0] S1x256x32.size inb_S3x256x32_S1x256x32_0_0_0))) (num (next x (View.ld cb (Rect.unit ![0, 0, 0] S1x256x32.size inb_S3x256x32_S1x256x32_0_0_0))
    (View.ld cbt (Rect.unit ![0, 0, 0] S1x32x256.size inb_S3x32x256_S1x32x256_0_0_0)))
    (View.ld cb (Rect.unit ![1, 0, 0] S1x256x32.size inb_S3x256x32_S1x256x32_1_0_0))) (num (next (next x (View.ld cb (Rect.unit ![0, 0, 0] S1x256x32.size inb_S3x256x32_S1x256x32_0_0_0))
    (View.ld cbt (Rect.unit ![0, 0, 0] S1x32x256.size inb_S3x32x256_S1x32x256_0_0_0)))
    (View.ld cb (Rect.unit ![1, 0, 0] S1x256x32.size inb_S3x256x32_S1x256x32_1_0_0))
    (View.ld cbt (Rect.unit ![1, 0, 0] S1x32x256.size inb_S3x32x256_S1x32x256_1_0_0)))
    (View.ld cb (Rect.unit ![2, 0, 0] S1x256x32.size inb_S3x256x32_S1x256x32_2_0_0)))
  unfold out0_A_4
  rw [View.read_writes_eq_canon _ _ _ (cover0_A_4 c i arg1 harg1 arg2 harg2 arg3 harg3 arg4 harg4 arg5 harg5 arg6 harg6 hc x cb cbt)]
  unfold kernelRun0_A
  dsimp only
  sl_unfold_words
  simp only [View.readAt_eq_ld, harg1.read_unread, harg2.read_unread, harg3.read_unread, View.ld_unit_zero (S := S32x2048) hz]
  refine Eq.trans ?_ (congrArg (fun x => rows (F := F) (num x _) (num (next x _ _) _) (num (next (next x _ _) _ _) _)) (shapeCast_self x shapeCasts_S32x2048_S32x2048))
  refine Eq.trans ?_ (canonI (F := F) _ _ _)
  rfl

/-- Launch 0, the first point: the loss row. -/
theorem out0_A_5_eq (hc : cond0_0 i) : out0_A_5 c i arg1 harg1 arg2 harg2 arg3 harg3 arg4 harg4 arg5 harg5 arg6 harg6 hc x cb cbt = blockL zeroL x (c0 cb) (c1 cb) (c2 cb) (t0 cbt) (t1 cbt) (t2 cbt) := by
  change _ = blockL zeroL x (View.ld cb (Rect.unit ![0, 0, 0] S1x256x32.size inb_S3x256x32_S1x256x32_0_0_0))
    (View.ld cb (Rect.unit ![1, 0, 0] S1x256x32.size inb_S3x256x32_S1x256x32_1_0_0))
    (View.ld cb (Rect.unit ![2, 0, 0] S1x256x32.size inb_S3x256x32_S1x256x32_2_0_0))
    (View.ld cbt (Rect.unit ![0, 0, 0] S1x32x256.size inb_S3x32x256_S1x32x256_0_0_0))
    (View.ld cbt (Rect.unit ![1, 0, 0] S1x32x256.size inb_S3x32x256_S1x32x256_1_0_0))
    (View.ld cbt (Rect.unit ![2, 0, 0] S1x32x256.size inb_S3x32x256_S1x32x256_2_0_0))
  unfold out0_A_5
  rw [View.read_writes_eq_canon _ _ _ (cover0_A_5 c i arg1 harg1 arg2 harg2 arg3 harg3 arg4 harg4 arg5 harg5 arg6 harg6 hc x cb cbt)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, View.ld_unit_zero (S := S32x2048) hz, View.ld_unit_zero (S := S1x128) hz]
  refine Eq.trans ?_ (congrArg₂ (fun l x => blockL l x _ _ _ _ _ _) (shapeCast_self zeroL shapeCasts_S1x128_S1x128) (shapeCast_self x shapeCasts_S32x2048_S32x2048))
  rfl

/-- Launch 0, a later point: the first result block. -/
theorem out0_B_3_eq (hc : ¬ cond0_0 i) : out0_B_3 c i arg1 harg1 arg2 harg2 arg3 harg3 arg4 harg4 arg5 harg5 arg6 harg6 hc x cb cbt xo = blockQ x (c0 cb) (c1 cb) (c2 cb) (t0 cbt) (t1 cbt) (t2 cbt) := by
  change _ = blockQ x (View.ld cb (Rect.unit ![0, 0, 0] S1x256x32.size inb_S3x256x32_S1x256x32_0_0_0))
    (View.ld cb (Rect.unit ![1, 0, 0] S1x256x32.size inb_S3x256x32_S1x256x32_1_0_0))
    (View.ld cb (Rect.unit ![2, 0, 0] S1x256x32.size inb_S3x256x32_S1x256x32_2_0_0))
    (View.ld cbt (Rect.unit ![0, 0, 0] S1x32x256.size inb_S3x32x256_S1x32x256_0_0_0))
    (View.ld cbt (Rect.unit ![1, 0, 0] S1x32x256.size inb_S3x32x256_S1x32x256_1_0_0))
    (View.ld cbt (Rect.unit ![2, 0, 0] S1x32x256.size inb_S3x32x256_S1x32x256_2_0_0))
  unfold out0_B_3
  rw [View.read_writes_eq_canon _ _ _ (cover0_B_3 c i arg1 harg1 arg2 harg2 arg3 harg3 arg4 harg4 arg5 harg5 arg6 harg6 hc x cb cbt xo)]
  unfold kernelRun0_B
  dsimp only
  rw [View.canon_unit_zero hz]
  sl_unfold_words
  simp only [View.readAt_eq_ld, harg1.read_unread, harg2.read_unread, harg3.read_unread, View.ld_unit_zero (S := S32x2048) hz]
  refine Eq.trans ?_ (congrArg (fun x => blockQ x _ _ _ _ _ _) (shapeCast_self x shapeCasts_S32x2048_S32x2048))
  rfl

/-- Launch 0, a later point: the numbers. -/
theorem out0_B_4_eq (hc : ¬ cond0_0 i) : out0_B_4 c i arg1 harg1 arg2 harg2 arg3 harg3 arg4 harg4 arg5 harg5 arg6 harg6 hc x cb cbt xo = rows (num x (c0 cb)) (num (next x (c0 cb) (t0 cbt)) (c1 cb)) (num (next (next x (c0 cb) (t0 cbt)) (c1 cb) (t1 cbt)) (c2 cb)) := by
  change _ = rows (num x (View.ld cb (Rect.unit ![0, 0, 0] S1x256x32.size inb_S3x256x32_S1x256x32_0_0_0))) (num (next x (View.ld cb (Rect.unit ![0, 0, 0] S1x256x32.size inb_S3x256x32_S1x256x32_0_0_0))
    (View.ld cbt (Rect.unit ![0, 0, 0] S1x32x256.size inb_S3x32x256_S1x32x256_0_0_0)))
    (View.ld cb (Rect.unit ![1, 0, 0] S1x256x32.size inb_S3x256x32_S1x256x32_1_0_0))) (num (next (next x (View.ld cb (Rect.unit ![0, 0, 0] S1x256x32.size inb_S3x256x32_S1x256x32_0_0_0))
    (View.ld cbt (Rect.unit ![0, 0, 0] S1x32x256.size inb_S3x32x256_S1x32x256_0_0_0)))
    (View.ld cb (Rect.unit ![1, 0, 0] S1x256x32.size inb_S3x256x32_S1x256x32_1_0_0))
    (View.ld cbt (Rect.unit ![1, 0, 0] S1x32x256.size inb_S3x32x256_S1x32x256_1_0_0)))
    (View.ld cb (Rect.unit ![2, 0, 0] S1x256x32.size inb_S3x256x32_S1x256x32_2_0_0)))
  unfold out0_B_4
  rw [View.read_writes_eq_canon _ _ _ (cover0_B_4 c i arg1 harg1 arg2 harg2 arg3 harg3 arg4 harg4 arg5 harg5 arg6 harg6 hc x cb cbt xo)]
  unfold kernelRun0_B
  dsimp only
  sl_unfold_words
  simp only [View.readAt_eq_ld, harg1.read_unread, harg2.read_unread, harg3.read_unread, View.ld_unit_zero (S := S32x2048) hz]
  refine Eq.trans ?_ (congrArg (fun x => rows (F := F) (num x _) (num (next x _ _) _) (num (next (next x _ _) _ _) _)) (shapeCast_self x shapeCasts_S32x2048_S32x2048))
  refine Eq.trans ?_ (canonI (F := F) _ _ _)
  rfl

/-- Launch 0, a later point: the loss row. -/
theorem out0_B_5_eq (hc : ¬ cond0_0 i) : out0_B_5 c i arg1 harg1 arg2 harg2 arg3 harg3 arg4 harg4 arg5 harg5 arg6 harg6 hc x cb cbt xo = blockL xo x (c0 cb) (c1 cb) (c2 cb) (t0 cbt) (t1 cbt) (t2 cbt) := by
  change _ = blockL xo x (View.ld cb (Rect.unit ![0, 0, 0] S1x256x32.size inb_S3x256x32_S1x256x32_0_0_0))
    (View.ld cb (Rect.unit ![1, 0, 0] S1x256x32.size inb_S3x256x32_S1x256x32_1_0_0))
    (View.ld cb (Rect.unit ![2, 0, 0] S1x256x32.size inb_S3x256x32_S1x256x32_2_0_0))
    (View.ld cbt (Rect.unit ![0, 0, 0] S1x32x256.size inb_S3x32x256_S1x32x256_0_0_0))
    (View.ld cbt (Rect.unit ![1, 0, 0] S1x32x256.size inb_S3x32x256_S1x32x256_1_0_0))
    (View.ld cbt (Rect.unit ![2, 0, 0] S1x32x256.size inb_S3x32x256_S1x32x256_2_0_0))
  unfold out0_B_5
  rw [View.read_writes_eq_canon _ _ _ (cover0_B_5 c i arg1 harg1 arg2 harg2 arg3 harg3 arg4 harg4 arg5 harg5 arg6 harg6 hc x cb cbt xo)]
  unfold kernelRun0_B
  dsimp only
  rw [View.canon_unit_zero hz]
  sl_unfold_words
  simp only [View.readAt_eq_ld, harg1.read_unread, harg2.read_unread, harg3.read_unread, harg6.read_unread, View.ld_unit_zero (S := S32x2048) hz, View.ld_unit_zero (S := S1x128) hz]
  refine Eq.trans ?_ (congrArg₂ (fun l x => blockL l x _ _ _ _ _ _) (shapeCast_self xo shapeCasts_S1x128_S1x128) (shapeCast_self x shapeCasts_S32x2048_S32x2048))
  rfl

/-- Launch 1, the first point: the first result block. -/
theorem out1_A_3_eq (hc : cond1_0 i) : out1_A_3 c i arg1 harg1 arg2 harg2 arg3 harg3 arg4 harg4 arg5 harg5 arg6 harg6 hc x cb cbt = blockQ x (c0 cb) (c1 cb) (c2 cb) (t0 cbt) (t1 cbt) (t2 cbt) := by
  change _ = blockQ x (View.ld cb (Rect.unit ![0, 0, 0] S1x256x32.size inb_S3x256x32_S1x256x32_0_0_0))
    (View.ld cb (Rect.unit ![1, 0, 0] S1x256x32.size inb_S3x256x32_S1x256x32_1_0_0))
    (View.ld cb (Rect.unit ![2, 0, 0] S1x256x32.size inb_S3x256x32_S1x256x32_2_0_0))
    (View.ld cbt (Rect.unit ![0, 0, 0] S1x32x256.size inb_S3x32x256_S1x32x256_0_0_0))
    (View.ld cbt (Rect.unit ![1, 0, 0] S1x32x256.size inb_S3x32x256_S1x32x256_1_0_0))
    (View.ld cbt (Rect.unit ![2, 0, 0] S1x32x256.size inb_S3x32x256_S1x32x256_2_0_0))
  unfold out1_A_3
  rw [View.read_writes_eq_canon _ _ _ (cover1_A_3 c i arg1 harg1 arg2 harg2 arg3 harg3 arg4 harg4 arg5 harg5 arg6 harg6 hc x cb cbt)]
  unfold kernelRun1_A
  dsimp only
  rw [View.canon_unit_zero hz]
  sl_unfold_words
  simp only [View.readAt_eq_ld, harg1.read_unread, harg2.read_unread, harg3.read_unread, View.ld_unit_zero (S := S32x2048) hz]
  refine Eq.trans ?_ (congrArg (fun x => blockQ x _ _ _ _ _ _) (shapeCast_self x shapeCasts_S32x2048_S32x2048))
  rfl

/-- Launch 1, the first point: the numbers. -/
theorem out1_A_4_eq (hc : cond1_0 i) : out1_A_4 c i arg1 harg1 arg2 harg2 arg3 harg3 arg4 harg4 arg5 harg5 arg6 harg6 hc x cb cbt = rows (num x (c0 cb)) (num (next x (c0 cb) (t0 cbt)) (c1 cb)) (num (next (next x (c0 cb) (t0 cbt)) (c1 cb) (t1 cbt)) (c2 cb)) := by
  change _ = rows (num x (View.ld cb (Rect.unit ![0, 0, 0] S1x256x32.size inb_S3x256x32_S1x256x32_0_0_0))) (num (next x (View.ld cb (Rect.unit ![0, 0, 0] S1x256x32.size inb_S3x256x32_S1x256x32_0_0_0))
    (View.ld cbt (Rect.unit ![0, 0, 0] S1x32x256.size inb_S3x32x256_S1x32x256_0_0_0)))
    (View.ld cb (Rect.unit ![1, 0, 0] S1x256x32.size inb_S3x256x32_S1x256x32_1_0_0))) (num (next (next x (View.ld cb (Rect.unit ![0, 0, 0] S1x256x32.size inb_S3x256x32_S1x256x32_0_0_0))
    (View.ld cbt (Rect.unit ![0, 0, 0] S1x32x256.size inb_S3x32x256_S1x32x256_0_0_0)))
    (View.ld cb (Rect.unit ![1, 0, 0] S1x256x32.size inb_S3x256x32_S1x256x32_1_0_0))
    (View.ld cbt (Rect.unit ![1, 0, 0] S1x32x256.size inb_S3x32x256_S1x32x256_1_0_0)))
    (View.ld cb (Rect.unit ![2, 0, 0] S1x256x32.size inb_S3x256x32_S1x256x32_2_0_0)))
  unfold out1_A_4
  rw [View.read_writes_eq_canon _ _ _ (cover1_A_4 c i arg1 harg1 arg2 harg2 arg3 harg3 arg4 harg4 arg5 harg5 arg6 harg6 hc x cb cbt)]
  unfold kernelRun1_A
  dsimp only
  sl_unfold_words
  simp only [View.readAt_eq_ld, harg1.read_unread, harg2.read_unread, harg3.read_unread, View.ld_unit_zero (S := S32x2048) hz]
  refine Eq.trans ?_ (congrArg (fun x => rows (F := F) (num x _) (num (next x _ _) _) (num (next (next x _ _) _ _) _)) (shapeCast_self x shapeCasts_S32x2048_S32x2048))
  refine Eq.trans ?_ (canonI (F := F) _ _ _)
  rfl

/-- Launch 1, the first point: the loss row. -/
theorem out1_A_5_eq (hc : cond1_0 i) : out1_A_5 c i arg1 harg1 arg2 harg2 arg3 harg3 arg4 harg4 arg5 harg5 arg6 harg6 hc x cb cbt = blockL zeroL x (c0 cb) (c1 cb) (c2 cb) (t0 cbt) (t1 cbt) (t2 cbt) := by
  change _ = blockL zeroL x (View.ld cb (Rect.unit ![0, 0, 0] S1x256x32.size inb_S3x256x32_S1x256x32_0_0_0))
    (View.ld cb (Rect.unit ![1, 0, 0] S1x256x32.size inb_S3x256x32_S1x256x32_1_0_0))
    (View.ld cb (Rect.unit ![2, 0, 0] S1x256x32.size inb_S3x256x32_S1x256x32_2_0_0))
    (View.ld cbt (Rect.unit ![0, 0, 0] S1x32x256.size inb_S3x32x256_S1x32x256_0_0_0))
    (View.ld cbt (Rect.unit ![1, 0, 0] S1x32x256.size inb_S3x32x256_S1x32x256_1_0_0))
    (View.ld cbt (Rect.unit ![2, 0, 0] S1x32x256.size inb_S3x32x256_S1x32x256_2_0_0))
  unfold out1_A_5
  rw [View.read_writes_eq_canon _ _ _ (cover1_A_5 c i arg1 harg1 arg2 harg2 arg3 harg3 arg4 harg4 arg5 harg5 arg6 harg6 hc x cb cbt)]
  unfold kernelRun1_A
  dsimp only
  sl_unfold_words
  rw [View.canon_cons_unit_zero (S := S1x128) hz, View.readCov_unit_zero (S := S1x128) _ hz]
  simp only [View.readAt_eq_ld, harg1.read_unread, harg2.read_unread, harg3.read_unread, View.ld_unit_zero (S := S32x2048) hz, View.ld_unit_zero (S := S1x128) hz]
  refine Eq.trans ?_ (congrArg₂ (fun l x => blockL l x _ _ _ _ _ _) (shapeCast_self zeroL shapeCasts_S1x128_S1x128) (shapeCast_self x shapeCasts_S32x2048_S32x2048))
  rfl

/-- Launch 1, a later point: the first result block. -/
theorem out1_B_3_eq (hc : ¬ cond1_0 i) : out1_B_3 c i arg1 harg1 arg2 harg2 arg3 harg3 arg4 harg4 arg5 harg5 arg6 harg6 hc x cb cbt xo = blockQ x (c0 cb) (c1 cb) (c2 cb) (t0 cbt) (t1 cbt) (t2 cbt) := by
  change _ = blockQ x (View.ld cb (Rect.unit ![0, 0, 0] S1x256x32.size inb_S3x256x32_S1x256x32_0_0_0))
    (View.ld cb (Rect.unit ![1, 0, 0] S1x256x32.size inb_S3x256x32_S1x256x32_1_0_0))
    (View.ld cb (Rect.unit ![2, 0, 0] S1x256x32.size inb_S3x256x32_S1x256x32_2_0_0))
    (View.ld cbt (Rect.unit ![0, 0, 0] S1x32x256.size inb_S3x32x256_S1x32x256_0_0_0))
    (View.ld cbt (Rect.unit ![1, 0, 0] S1x32x256.size inb_S3x32x256_S1x32x256_1_0_0))
    (View.ld cbt (Rect.unit ![2, 0, 0] S1x32x256.size inb_S3x32x256_S1x32x256_2_0_0))
  unfold out1_B_3
  rw [View.read_writes_eq_canon _ _ _ (cover1_B_3 c i arg1 harg1 arg2 harg2 arg3 harg3 arg4 harg4 arg5 harg5 arg6 harg6 hc x cb cbt xo)]
  unfold kernelRun1_B
  dsimp only
  rw [View.canon_unit_zero hz]
  sl_unfold_words
  simp only [View.readAt_eq_ld, harg1.read_unread, harg2.read_unread, harg3.read_unread, View.ld_unit_zero (S := S32x2048) hz]
  refine Eq.trans ?_ (congrArg (fun x => blockQ x _ _ _ _ _ _) (shapeCast_self x shapeCasts_S32x2048_S32x2048))
  rfl

/-- Launch 1, a later point: the numbers. -/
theorem out1_B_4_eq (hc : ¬ cond1_0 i) : out1_B_4 c i arg1 harg1 arg2 harg2 arg3 harg3 arg4 harg4 arg5 harg5 arg6 harg6 hc x cb cbt xo = rows (num x (c0 cb)) (num (next x (c0 cb) (t0 cbt)) (c1 cb)) (num (next (next x (c0 cb) (t0 cbt)) (c1 cb) (t1 cbt)) (c2 cb)) := by
  change _ = rows (num x (View.ld cb (Rect.unit ![0, 0, 0] S1x256x32.size inb_S3x256x32_S1x256x32_0_0_0))) (num (next x (View.ld cb (Rect.unit ![0, 0, 0] S1x256x32.size inb_S3x256x32_S1x256x32_0_0_0))
    (View.ld cbt (Rect.unit ![0, 0, 0] S1x32x256.size inb_S3x32x256_S1x32x256_0_0_0)))
    (View.ld cb (Rect.unit ![1, 0, 0] S1x256x32.size inb_S3x256x32_S1x256x32_1_0_0))) (num (next (next x (View.ld cb (Rect.unit ![0, 0, 0] S1x256x32.size inb_S3x256x32_S1x256x32_0_0_0))
    (View.ld cbt (Rect.unit ![0, 0, 0] S1x32x256.size inb_S3x32x256_S1x32x256_0_0_0)))
    (View.ld cb (Rect.unit ![1, 0, 0] S1x256x32.size inb_S3x256x32_S1x256x32_1_0_0))
    (View.ld cbt (Rect.unit ![1, 0, 0] S1x32x256.size inb_S3x32x256_S1x32x256_1_0_0)))
    (View.ld cb (Rect.unit ![2, 0, 0] S1x256x32.size inb_S3x256x32_S1x256x32_2_0_0)))
  unfold out1_B_4
  rw [View.read_writes_eq_canon _ _ _ (cover1_B_4 c i arg1 harg1 arg2 harg2 arg3 harg3 arg4 harg4 arg5 harg5 arg6 harg6 hc x cb cbt xo)]
  unfold kernelRun1_B
  dsimp only
  sl_unfold_words
  simp only [View.readAt_eq_ld, harg1.read_unread, harg2.read_unread, harg3.read_unread, View.ld_unit_zero (S := S32x2048) hz]
  refine Eq.trans ?_ (congrArg (fun x => rows (F := F) (num x _) (num (next x _ _) _) (num (next (next x _ _) _ _) _)) (shapeCast_self x shapeCasts_S32x2048_S32x2048))
  refine Eq.trans ?_ (canonI (F := F) _ _ _)
  rfl

/-- Launch 1, a later point: the loss row. -/
theorem out1_B_5_eq (hc : ¬ cond1_0 i) : out1_B_5 c i arg1 harg1 arg2 harg2 arg3 harg3 arg4 harg4 arg5 harg5 arg6 harg6 hc x cb cbt xo = blockL xo x (c0 cb) (c1 cb) (c2 cb) (t0 cbt) (t1 cbt) (t2 cbt) := by
  change _ = blockL xo x (View.ld cb (Rect.unit ![0, 0, 0] S1x256x32.size inb_S3x256x32_S1x256x32_0_0_0))
    (View.ld cb (Rect.unit ![1, 0, 0] S1x256x32.size inb_S3x256x32_S1x256x32_1_0_0))
    (View.ld cb (Rect.unit ![2, 0, 0] S1x256x32.size inb_S3x256x32_S1x256x32_2_0_0))
    (View.ld cbt (Rect.unit ![0, 0, 0] S1x32x256.size inb_S3x32x256_S1x32x256_0_0_0))
    (View.ld cbt (Rect.unit ![1, 0, 0] S1x32x256.size inb_S3x32x256_S1x32x256_1_0_0))
    (View.ld cbt (Rect.unit ![2, 0, 0] S1x32x256.size inb_S3x32x256_S1x32x256_2_0_0))
  unfold out1_B_5
  rw [View.read_writes_eq_canon _ _ _ (cover1_B_5 c i arg1 harg1 arg2 harg2 arg3 harg3 arg4 harg4 arg5 harg5 arg6 harg6 hc x cb cbt xo)]
  unfold kernelRun1_B
  dsimp only
  rw [View.canon_unit_zero hz]
  sl_unfold_words
  simp only [View.readAt_eq_ld, harg1.read_unread, harg2.read_unread, harg3.read_unread, harg6.read_unread, View.ld_unit_zero (S := S32x2048) hz, View.ld_unit_zero (S := S1x128) hz]
  refine Eq.trans ?_ (congrArg₂ (fun l x => blockL l x _ _ _ _ _ _) (shapeCast_self xo shapeCasts_S1x128_S1x128) (shapeCast_self x shapeCasts_S32x2048_S32x2048))
  rfl

end Cert.Proof.Blk
-- ==== Proof.Spec.lean ====
/-
  The mathematics both programs compute, over the reals: the distances of a vector to 256 codewords, the first codeword at the
  least distance, and what is left of the vector after it.
-/
module

public import Idealize.ShloMosaic.Lib.Pointwise

@[expose] public section

noncomputable section

namespace Cert.Proof.Spec

open scoped BigOperators

/-- The squared distance of `v` to codeword `k`, multiplied out. -/
def far (v : Fin 32 → ℝ) (C : Fin 256 → Fin 32 → ℝ) (k : Fin 256) : ℝ :=
  (∑ a, v a * v a) - 2 * (∑ a, v a * C k a) + ∑ a, C k a * C k a

/-- `k` is the first place where `d` is least. -/
def First (d : Fin 256 → ℝ) (k : Fin 256) : Prop := (∀ k', d k ≤ d k') ∧ ∀ k', k' < k → d k < d k'

/-- There is a first place where `d` is least. -/
theorem exists_first (d : Fin 256 → ℝ) : ∃ k, First d k := by
  obtain ⟨k₀, h₀⟩ := Finite.exists_min d
  obtain ⟨k, hk, hmin⟩ := Set.exists_min_image {k | d k = d k₀} id (Set.toFinite _) ⟨k₀, rfl⟩
  refine ⟨k, fun k' => hk.trans_le (h₀ k'), fun k' hlt => lt_of_le_of_ne (hk.trans_le (h₀ k')) fun e => ?_⟩
  exact absurd (hmin k' (e.symm.trans hk)) (not_le.mpr hlt)

/-- There is only one such place. -/
theorem First.eq {d : Fin 256 → ℝ} {k l : Fin 256} (hk : First d k) (hl : First d l) : k = l := by
  rcases lt_trichotomy k l with h | h | h
  · exact absurd (hl.2 k h) (not_lt.mpr (hk.1 l))
  · exact h
  · exact absurd (hk.2 l h) (not_lt.mpr (hl.1 k))

/-- The first place where `d` is least. -/
def first (d : Fin 256 → ℝ) : Fin 256 := (exists_first d).choose

/-- `first d` is that place. -/
theorem first_spec (d : Fin 256 → ℝ) : First d (first d) := (exists_first d).choose_spec

/-- The number of the nearest codeword. -/
def best (v : Fin 32 → ℝ) (C : Fin 256 → Fin 32 → ℝ) : Fin 256 := first (far v C)

/-- What is left of `v` after its nearest codeword. -/
def rest (v : Fin 32 → ℝ) (C : Fin 256 → Fin 32 → ℝ) (a : Fin 32) : ℝ := v a - C (best v C) a

/-- The squared length of what is left. -/
def err (v : Fin 32 → ℝ) (C : Fin 256 → Fin 32 → ℝ) : ℝ := ∑ a, (C (best v C) a - v a) * (C (best v C) a - v a)

section Chain
variable (v : Fin 32 → ℝ) (C : Fin 3 → Fin 256 → Fin 32 → ℝ)

/-- What is left after one stage. -/
def rest1 : Fin 32 → ℝ := rest v (C 0)

/-- What is left after two stages. -/
def rest2 : Fin 32 → ℝ := rest (rest1 v C) (C 1)

/-- The numbers of the three stages' codewords. -/
def nums (s : Fin 3) : Fin 256 := if (s : ℕ) = 0 then best v (C 0) else if (s : ℕ) = 1 then best (rest1 v C) (C 1) else best (rest2 v C) (C 2)

/-- The sum of the three codewords. -/
def total (a : Fin 32) : ℝ := C 0 (best v (C 0)) a + C 1 (best (rest1 v C) (C 1)) a + C 2 (best (rest2 v C) (C 2)) a

/-- What each stage leaves, as a squared length. -/
def errs (s : Fin 3) : ℝ := if (s : ℕ) = 0 then err v (C 0) else if (s : ℕ) = 1 then err (rest1 v C) (C 1) else err (rest2 v C) (C 2)

end Chain

end Cert.Proof.Spec
-- ==== Proof.Words.lean ====
/-
  The constants of the two programs as real numbers, sums of reals inside the extended reals, and the integer words of a
  codeword's number.
-/
module

public import Idealize.ShloMosaic.Lib.Pointwise

@[expose] public section

noncomputable section

namespace Cert.Proof.Words

open Idealize.ShloMosaic
open scoped BigOperators

/-- The word of 0. -/
theorem ofBits_zero : Ideal.ofBits .f32 0x00000000#32 = ((0 : ℝ) : EReal) := by simp [Ideal.ofBits, Ideal.ieee]
/-- The word of 2. -/
theorem ofBits_two : Ideal.ofBits .f32 0x40000000#32 = ((2 : ℝ) : EReal) := by
  simp [Ideal.ofBits, Ideal.ieee, -EReal.coe_mul]; norm_num
/-- The word of -2. -/
theorem ofBits_neg_two : Ideal.ofBits .f32 0xC0000000#32 = ((-2 : ℝ) : EReal) := by
  simp [Ideal.ofBits, Ideal.ieee, -EReal.coe_mul]; norm_num
/-- The word of 2097152, the number of elements. -/
theorem ofBits_count : Ideal.ofBits .f32 0x4A000000#32 = ((2097152 : ℝ) : EReal) := by
  simp [Ideal.ofBits, Ideal.ieee, -EReal.coe_mul]; norm_num
/-- The word of 1/2097152. -/
theorem ofBits_share : Ideal.ofBits .f32 0x35000000#32 = ((1 / 2097152 : ℝ) : EReal) := by
  simp [Ideal.ofBits, Ideal.ieee, -EReal.coe_mul]; norm_num
/-- The word of infinity. -/
theorem ofBits_inf : Ideal.ofBits .f32 0x7F800000#32 = (⊤ : EReal) := by simp [Ideal.ofBits, Ideal.ieee]

/-- A sum of reals, taken in the extended reals. -/
theorem coe_sum {ι : Type} (s : Finset ι) (f : ι → ℝ) : ∑ a ∈ s, ((f a : ℝ) : EReal) = ((∑ a ∈ s, f a : ℝ) : EReal) := by
  classical
  induction s using Finset.induction_on with
  | empty => simp
  | insert a s h ih => rw [Finset.sum_insert h, Finset.sum_insert h, ih, EReal.coe_add]

/-- The least of reals, from infinity on, is the one that is below all. -/
theorem fold_min_coe {ι : Type} [Fintype ι] (d : ι → ℝ) (k : ι) (h : ∀ k', d k ≤ d k') :
    Finset.univ.fold min (⊤ : EReal) (fun x => ((d x : ℝ) : EReal)) = ((d k : ℝ) : EReal) := by
  apply le_antisymm
  · exact Finset.fold_min_le _ |>.mpr (.inr ⟨k, Finset.mem_univ k, le_rfl⟩)
  · exact Finset.le_fold_min _ |>.mpr ⟨le_top, fun x _ => EReal.coe_le_coe_iff.mpr (h x)⟩

/-- The signed minimum's value. -/
theorem minsi_toInt (a b : BitVec 32) : (IntOp.minsi a b).toInt = min a.toInt b.toInt := by
  unfold IntOp.minsi
  split <;> rename_i h <;> simp [BitVec.slt] at h <;> omega

/-- The signed minimum over a finite set is one of the words, or the first, and below all of them. -/
theorem fold_minsi_spec {ι : Type} (s : Finset ι) (b : BitVec 32) (f : ι → BitVec 32) :
    (s.fold IntOp.minsi b f).toInt ≤ b.toInt ∧ (∀ x ∈ s, (s.fold IntOp.minsi b f).toInt ≤ (f x).toInt) ∧
      (s.fold IntOp.minsi b f = b ∨ ∃ x ∈ s, s.fold IntOp.minsi b f = f x) := by
  classical
  induction s using Finset.induction_on with
  | empty => simp
  | insert a s h ih =>
    obtain ⟨h1, h2, h3⟩ := ih
    rw [Finset.fold_insert h, minsi_toInt]
    refine ⟨(min_le_right _ _).trans h1, fun x hx => ?_, ?_⟩
    · rcases Finset.mem_insert.mp hx with rfl | hx
      · exact min_le_left _ _
      · exact (min_le_right _ _).trans (h2 x hx)
    · have e : IntOp.minsi (f a) (s.fold IntOp.minsi b f) = f a ∨ IntOp.minsi (f a) (s.fold IntOp.minsi b f) = s.fold IntOp.minsi b f := by
        unfold IntOp.minsi; split <;> simp
      rcases e with e | e
      · exact .inr ⟨a, Finset.mem_insert_self a s, e⟩
      · rw [e]
        rcases h3 with h3 | ⟨x, hx, h3⟩
        · exact .inl h3
        · exact .inr ⟨x, Finset.mem_insert_of_mem hx, h3⟩

/-- The signed minimum over all of a finite type, at a word that occurs and is below all. -/
theorem fold_minsi {ι : Type} [Fintype ι] (b : BitVec 32) (f : ι → BitVec 32) (w : BitVec 32) (hb : w.toInt ≤ b.toInt)
    (hw : ∀ x, w.toInt ≤ (f x).toInt) (k : ι) (hk : f k = w) : Finset.univ.fold IntOp.minsi b f = w := by
  obtain ⟨-, h2, h3⟩ := fold_minsi_spec Finset.univ b f
  apply BitVec.eq_of_toInt_eq
  apply le_antisymm
  · exact (h2 k (Finset.mem_univ k)).trans (le_of_eq (congrArg BitVec.toInt hk))
  · rcases h3 with h3 | ⟨x, -, h3⟩
    · rw [h3]; exact hb
    · rw [h3]; exact hw x

/-- A codeword's number as a signed word. -/
theorem toInt_ofNat (k : Fin 256) : (BitVec.ofNat 32 (k : ℕ)).toInt = (k : ℕ) :=
  (by decide +kernel : ∀ k : Fin 256, (BitVec.ofNat 32 (k : ℕ)).toInt = (k : ℕ)) k

/-- Its low seven bits. -/
theorem andi_127 (k : Fin 256) : IntOp.andi (BitVec.ofNat 32 (k : ℕ)) 127#32 = BitVec.ofNat 32 ((k : ℕ) % 128) :=
  (by decide +kernel : ∀ k : Fin 256, IntOp.andi (BitVec.ofNat 32 (k : ℕ)) 127#32 = BitVec.ofNat 32 ((k : ℕ) % 128)) k

/-- Whether it is one of the first 128. -/
theorem slt_128 (k : Fin 256) : IntOp.cmpi .slt (BitVec.ofNat 32 (k : ℕ)) 128#32 = if (k : ℕ) < 128 then 1#1 else 0#1 :=
  (by decide +kernel : ∀ k : Fin 256, IntOp.cmpi .slt (BitVec.ofNat 32 (k : ℕ)) 128#32 = if (k : ℕ) < 128 then 1#1 else 0#1) k

/-- A lane's number, wrapped from below as an index is, stays as it is. -/
theorem wrap_128 (n : ℕ) (h : n < 128) : (Scalar.select (IntOp.cmpi CmpIPredicate.slt (BitVec.ofNat 32 n) 0#32)
    (IntOp.addi (BitVec.ofNat 32 n) 128#32) (BitVec.ofNat 32 n)).toNat % 128 = n :=
  (by decide +kernel : ∀ n : Fin 128, (Scalar.select (IntOp.cmpi CmpIPredicate.slt (BitVec.ofNat 32 (n : ℕ)) 0#32)
    (IntOp.addi (BitVec.ofNat 32 (n : ℕ)) 128#32) (BitVec.ofNat 32 (n : ℕ))).toNat % 128 = n) ⟨n, h⟩

end Cert.Proof.Words
-- ==== Proof.StageAt.lean ====
/-
  One stage of the kernel over real numbers: at column `j` of a block, where the residual is the real vector `v` and the
  codebook the real matrix `C`, the stage finds the number of the first nearest codeword, contributes that codeword, and leaves
  `v` minus it.
-/
module

public import proofs.«01_k».proof.Proof.Stage
public import proofs.«01_k».proof.Proof.Spec
public import proofs.«01_k».proof.Proof.Words

@[expose] public section

set_option maxRecDepth 16384

noncomputable section

namespace Cert.Proof.Blk

open Cert.KernelIdeal Cert.KernelIdeal.Gen Cert.Proof.Spec Cert.Proof.Words
open Idealize.ShloMosaic
open scoped BigOperators

/-- A sum of 32 terms, folded in half twice and then summed. -/
theorem sum_folded (f : Fin 32 → ℝ) :
    ∑ x : Fin 8, (f ⟨x, by omega⟩ + f ⟨16 + x, by omega⟩ + (f ⟨8 + x, by omega⟩ + f ⟨16 + (8 + x), by omega⟩)) = ∑ a, f a := by
  rw [Fin.sum_univ_eight]
  simp only [Fin.sum_univ_succ, Fin.sum_univ_zero]
  change f 0 + f 16 + (f 8 + f 24) + (f 1 + f 17 + (f 9 + f 25)) + (f 2 + f 18 + (f 10 + f 26)) + (f 3 + f 19 + (f 11 + f 27))
    + (f 4 + f 20 + (f 12 + f 28)) + (f 5 + f 21 + (f 13 + f 29)) + (f 6 + f 22 + (f 14 + f 30)) + (f 7 + f 23 + (f 15 + f 31))
    = f 0 + (f 1 + (f 2 + (f 3 + (f 4 + (f 5 + (f 6 + (f 7 + (f 8 + (f 9 + (f 10 + (f 11 + (f 12 + (f 13 + (f 14 + (f 15 + (f 16
    + (f 17 + (f 18 + (f 19 + (f 20 + (f 21 + (f 22 + (f 23 + (f 24 + (f 25 + (f 26 + (f 27 + (f 28 + (f 29 + (f 30 + (f 31
    + 0)))))))))))))))))))))))))))))))
  ring

/-- The squared norm of a column. -/
theorem sqn_at (r : FVec Ideal S32x2048 .f32) (j : Fin 2048) (v : Fin 32 → ℝ) (hr : ∀ a, r (ix2 a j) = ((v a : ℝ) : EReal)) :
    sqn r (ix2 0 j) = ((∑ a, v a * v a : ℝ) : EReal) := by
  pointwise [sqn, quarter, half]
  simp only [hr, ← EReal.coe_mul, ← EReal.coe_add]
  rw [coe_sum]
  exact congrArg _ (sum_folded fun a => v a * v a)

/-- The distance of a codeword to a column. -/
theorem dist_at (r : FVec Ideal S32x2048 .f32) (c : Vec Ideal S1x256x32 .f32) (j : Fin 2048) (v : Fin 32 → ℝ) (C : Fin 256 → Fin 32 → ℝ)
    (hr : ∀ a, r (ix2 a j) = ((v a : ℝ) : EReal)) (hc : ∀ k a, c (ix3 0 k a) = ((C k a : ℝ) : EReal)) (k : Fin 256) :
    dist r (book c) (ix2 k j) = ((far v C k : ℝ) : EReal) := by
  pointwise [dist, cross, norms, book]
  rw [sqn_at r j v hr]
  simp only [hr, hc, ofBits_neg_two, ← EReal.coe_mul, coe_sum, ← EReal.coe_add]
  refine congrArg _ ?_
  unfold far
  rw [sub_eq_add_neg, ← neg_mul, Finset.mul_sum]
  congr 2
  exact Finset.sum_congr rfl fun a _ => by ring

/-- The number of the first least of a column of distances. -/
theorem idx_at (d : FVec Ideal S256x2048 .f32) (j : Fin 2048) (D : Fin 256 → ℝ) (hd : ∀ k, d (ix2 k j) = ((D k : ℝ) : EReal)) :
    idx d (ix1 j) = BitVec.ofNat 32 (first D : ℕ) := by
  obtain ⟨h1, h2⟩ := first_spec D
  have hcand : ∀ k : Fin 256, cand d (ix2 k j) = if D k = D (first D) then BitVec.ofNat 32 (k : ℕ) else 256#32 := by
    intro k
    pointwise [cand, least]
    simp only [hd, ofBits_inf]
    rw [fold_min_coe D (first D) h1]
    simp only [EReal.coe_eq_coe_iff]
  pointwise [idx]
  refine fold_minsi _ _ _ ?_ (fun k => ?_) (first D) ?_
  · rw [toInt_ofNat]; have := (first D).isLt; change _ ≤ (2147483647 : ℤ); omega
  · rw [hcand, toInt_ofNat]
    split
    · rename_i e
      rw [toInt_ofNat]
      by_contra hlt
      have : k < first D := by rw [Fin.lt_def]; omega
      exact absurd e.symm (ne_of_lt (h2 k this))
    · have := (first D).isLt; change _ ≤ (256 : ℤ); omega
  · rw [hcand]; simp

/-- One tile at an index: the lane that its number names. -/
theorem pick_at (src : FVec Ideal S32x128 .f32) (l : IVec S32x2048 32) (o : ℕ) (h : S32x2048.Slices ![0, o] S32x128) (a : Fin 32) (j : Fin 128)
    (hj : o + (j : ℕ) < 2048) (n : ℕ) (hn : n < 128) (hl : l (ix2 a ⟨o + j, hj⟩) = BitVec.ofNat 32 n) :
    pick src l ![0, o] h (ix2 a j) = src (ix2 a ⟨n, hn⟩) := by
  pointwise [pick]
  refine congrArg src (congrArg (ix2 a) (Fin.ext ?_))
  have e := wrap_128 n hn
  rw [← hl] at e
  exact e

/-- The sixteen tiles at an index. -/
theorem lanes_at (src : FVec Ideal S32x128 .f32) (l : IVec S32x2048 32) (a : Fin 32) (j : Fin 2048) (n : ℕ) (hn : n < 128)
    (hl : l (ix2 a j) = BitVec.ofNat 32 n) : lanes src l (ix2 a j) = src (ix2 a ⟨n, hn⟩) := by
  have hs : ∀ m : Fin 16, S32x2048.Slices ![0, 128 * (m : ℕ)] S32x128 := by decide +kernel
  have hj : (j : ℕ) / 128 < 16 := by have := j.isLt; omega
  have hcc : Shape.Concatenates ((List.ofFn fun m : Fin 16 => (⟨S32x128, pick src l ![0, 128 * (m : ℕ)] (hs m)⟩ :
      (s : Shape) × (s.Idx → Ideal .f32))).map (·.1)) S32x2048 1 :=
    concatenates_S32x128_S32x128_S32x128_S32x128_S32x128_S32x128_S32x128_S32x128_S32x128_S32x128_S32x128_S32x128_S32x128_S32x128_S32x128_S32x128_S32x2048_d1
  have e : lanes src l = concatenate S32x2048 1 (List.ofFn fun m : Fin 16 => (⟨S32x128, pick src l ![0, 128 * (m : ℕ)] (hs m)⟩ :
      (s : Shape) × (s.Idx → Ideal .f32))) hcc := rfl
  refine (congrFun e _).trans ((concatenate_ofFn_apply (t := S32x2048) (s₁ := S32x128) 1
    (fun m : Fin 16 => pick src l ![0, 128 * (m : ℕ)] (hs m)) hcc rfl 128 rfl (ix2 a j)
    ⟨(j : ℕ) / 128, hj⟩ rfl (ix2 a ⟨(j : ℕ) % 128, Nat.mod_lt _ (by decide)⟩) rfl (fun b hb => by
      match b with
      | ⟨0, _⟩ => rfl
      | ⟨1, _⟩ => exact absurd rfl hb)).trans ?_)
  have hd : 128 * ((j : ℕ) / 128) + (j : ℕ) % 128 = j := Nat.div_add_mod _ _
  exact pick_at src l (128 * ((j : ℕ) / 128)) (hs ⟨_, hj⟩) a ⟨(j : ℕ) % 128, Nat.mod_lt _ (by decide)⟩ (hd.trans_lt j.isLt) n hn
    ((congrArg (fun y => l (ix2 a y)) (Fin.ext hd)).trans hl)

/-- The nearest codeword at an index, from its number. -/
theorem quant_at (ct : Vec Ideal S1x32x256 .f32) (i : IVec S2048 32) (j : Fin 2048) (k : Fin 256) (hi : i (ix1 j) = BitVec.ofNat 32 (k : ℕ))
    (a : Fin 32) : quant (bookT ct) i (ix2 a j) = ct (ix3 0 a k) := by
  have hlow : low i (ix2 a j) = BitVec.ofNat 32 ((k : ℕ) % 128) := by
    pointwise [low, idxb]
    rw [hi, andi_127]
  have hn : (k : ℕ) % 128 < 128 := Nat.mod_lt _ (by decide)
  have hb : idxb i (ix2 a j) = BitVec.ofNat 32 (k : ℕ) := by
    pointwise [idxb]
    exact hi
  pointwise [quant]
  rw [hb, slt_128, lanes_at _ (low i) a j _ hn hlow, lanes_at _ (low i) a j _ hn hlow]
  pointwise [bookT]
  have hk := k.isLt
  by_cases h : (k : ℕ) < 128
  · rw [if_pos h]
    refine congrArg ct (congrArg (ix3 0 a) (Fin.ext ?_))
    change (k : ℕ) % 128 = k
    omega
  · rw [if_neg h]
    refine congrArg ct (congrArg (ix3 0 a) (Fin.ext ?_))
    change 128 + (k : ℕ) % 128 = k
    omega

/-- The block's loss, from what its columns and their codewords are. -/
theorem lossOf_at (r q : FVec Ideal S32x2048 .f32) (V Q : Fin 2048 → Fin 32 → ℝ) (hr : ∀ j a, r (ix2 a j) = ((V j a : ℝ) : EReal))
    (hq : ∀ j a, q (ix2 a j) = ((Q j a : ℝ) : EReal)) :
    lossOf r q = (((∑ j, ∑ a, (Q j a - V j a) * (Q j a - V j a)) * (1 / 2097152) : ℝ) : EReal) := by
  pointwise [lossOf]
  simp only [hr, hq, ofBits_share, ← EReal.coe_sub, ← EReal.coe_mul, coe_sum]
  rw [Finset.sum_comm]

/-- A loss row at a lane. -/
theorem onLane_at (n : BitVec 32) (s : Ideal .f32) (i : Fin 128) :
    onLane n s (ix2 0 i) = if BitVec.ofNat 32 (i : ℕ) = n then s else ((0 : ℝ) : EReal) := by
  pointwise [onLane, lane]
  by_cases h : BitVec.ofNat 32 (i : ℕ) = n
  · rw [if_pos h, h]; simp [Scalar.select, IntOp.cmpi]
  · have hb : (BitVec.ofNat 32 (i : ℕ) == n) = false := beq_eq_false_iff_ne.mpr h
    rw [if_neg h]
    change (if BitVec.ofBool (BitVec.ofNat 32 (i : ℕ) == n) = 1#1 then s else (0 : EReal)) = _
    rw [hb]
    rfl

section
variable (r : FVec Ideal S32x2048 .f32) (c : Vec Ideal S1x256x32 .f32) (ct : Vec Ideal S1x32x256 .f32) (C : Fin 256 → Fin 32 → ℝ)
variable (hc : ∀ k a, c (ix3 0 k a) = ((C k a : ℝ) : EReal)) (hct : ∀ a k, ct (ix3 0 a k) = ((C k a : ℝ) : EReal))
include hc

/-- The stage's number is of the first nearest codeword. -/
theorem num_at (j : Fin 2048) (v : Fin 32 → ℝ) (hr : ∀ a, r (ix2 a j) = ((v a : ℝ) : EReal)) :
    num r c (ix1 j) = BitVec.ofNat 32 (best v C : ℕ) :=
  idx_at _ j _ (dist_at r c j v C hr hc)

include hct

/-- The stage's codeword is that one. -/
theorem near_at (j : Fin 2048) (v : Fin 32 → ℝ) (hr : ∀ a, r (ix2 a j) = ((v a : ℝ) : EReal)) (a : Fin 32) :
    near r c ct (ix2 a j) = ((C (best v C) a : ℝ) : EReal) :=
  (quant_at ct _ j _ (num_at r c C hc j v hr) a).trans (hct a _)

/-- The stage contributes its codeword. -/
theorem add_at (j : Fin 2048) (v : Fin 32 → ℝ) (hr : ∀ a, r (ix2 a j) = ((v a : ℝ) : EReal)) (a : Fin 32) :
    add r c ct (ix2 a j) = ((C (best v C) a : ℝ) : EReal) := by
  pointwise [add, through]
  rw [near_at r c ct C hc hct j v hr a, hr, ← EReal.coe_sub, ← EReal.coe_add, add_sub_cancel]

/-- The stage leaves the rest. -/
theorem next_at (j : Fin 2048) (v : Fin 32 → ℝ) (hr : ∀ a, r (ix2 a j) = ((v a : ℝ) : EReal)) (a : Fin 32) :
    next r c ct (ix2 a j) = ((rest v C a : ℝ) : EReal) := by
  pointwise [next]
  rw [add_at r c ct C hc hct j v hr a, hr, ← EReal.coe_sub]
  rfl

/-- The stage's loss lies on its lane. -/
theorem loss_at (n : BitVec 32) (V : Fin 2048 → Fin 32 → ℝ) (hr : ∀ j a, r (ix2 a j) = ((V j a : ℝ) : EReal)) (i : Fin 128) :
    loss n r c ct (ix2 0 i) = (((if BitVec.ofNat 32 (i : ℕ) = n then (∑ j, err (V j) C) * (1 / 2097152) else 0 : ℝ)) : EReal) := by
  have e := lossOf_at r (near r c ct) V (fun j => C (best (V j) C)) hr (fun j a => near_at r c ct C hc hct j (V j) (hr j) a)
  unfold loss
  rw [onLane_at, e]
  unfold err
  split
  · rfl
  · rfl

end

end Cert.Proof.Blk
-- ==== Proof.BlockAt.lean ====
/-
  A block of 2048 columns over real numbers: the sums of the three codewords, the three numbers, and what the block adds to the
  loss row.
-/
module

public import proofs.«01_k».proof.Proof.Block
public import proofs.«01_k».proof.Proof.StageAt

@[expose] public section

set_option maxRecDepth 16384

noncomputable section

namespace Cert.Proof.Blk

open Cert.KernelIdeal Cert.KernelIdeal.Gen Cert.Proof.Spec Cert.Proof.Words
open Idealize.ShloMosaic
open scoped BigOperators

section Planes
variable (cb : Vec Ideal S3x256x32 .f32) (cbt : Vec Ideal S3x32x256 .f32) (k : Fin 256) (a : Fin 32)

/-- The first stage's codebook at an index. -/
theorem c0_at : c0 cb (ix3 0 k a) = cb (ix3 0 k a) := by pointwise [c0]
/-- The second stage's codebook at an index. -/
theorem c1_at : c1 cb (ix3 0 k a) = cb (ix3 1 k a) := by pointwise [c1]
/-- The third stage's codebook at an index. -/
theorem c2_at : c2 cb (ix3 0 k a) = cb (ix3 2 k a) := by pointwise [c2]
/-- The first stage's transposed codebook at an index. -/
theorem t0_at : t0 cbt (ix3 0 a k) = cbt (ix3 0 a k) := by pointwise [t0]
/-- The second stage's transposed codebook at an index. -/
theorem t1_at : t1 cbt (ix3 0 a k) = cbt (ix3 1 a k) := by pointwise [t1]
/-- The third stage's transposed codebook at an index. -/
theorem t2_at : t2 cbt (ix3 0 a k) = cbt (ix3 2 a k) := by pointwise [t2]

end Planes

/-- What a block adds to lane `i` of the loss row, from the three losses. -/
def onLanes (f : Fin 3 → ℝ) (i : Fin 128) : ℝ :=
  (if BitVec.ofNat 32 (i : ℕ) = 0#32 then f 0 else 0) + (if BitVec.ofNat 32 (i : ℕ) = 1#32 then f 1 else 0)
    + (if BitVec.ofNat 32 (i : ℕ) = 2#32 then f 2 else 0)

/-- Three numbers on their lanes add lane by lane. -/
theorem onLanes_add (f g : Fin 3 → ℝ) (i : Fin 128) : onLanes f i + onLanes g i = onLanes (fun s => f s + g s) i := by
  unfold onLanes
  split <;> split <;> split <;> ring

/-- Three zeros on their lanes are zero on every lane. -/
theorem onLanes_zero (i : Fin 128) : onLanes (fun _ => 0) i = 0 := by
  unfold onLanes
  simp

/-- Lane `i` of the loss row after `n` blocks of 2048 rows each. -/
def gathered (X : ℕ → Fin 32 → ℝ) (C : Fin 3 → Fin 256 → Fin 32 → ℝ) (n : ℕ) (i : Fin 128) : ℝ :=
  onLanes (fun s => (∑ m ∈ Finset.range n, ∑ j : Fin 2048, errs (X (m * 2048 + (j : ℕ))) C s) * (1 / 2097152)) i

/-- Before the first block nothing has been summed. -/
theorem gathered_zero (X : ℕ → Fin 32 → ℝ) (C : Fin 3 → Fin 256 → Fin 32 → ℝ) (i : Fin 128) : gathered X C 0 i = 0 := by
  unfold gathered
  simp only [Finset.range_zero, Finset.sum_empty, zero_mul]
  exact onLanes_zero i

/-- One more block adds its own columns' errors. -/
theorem gathered_succ (X : ℕ → Fin 32 → ℝ) (C : Fin 3 → Fin 256 → Fin 32 → ℝ) (n : ℕ) (i : Fin 128) : gathered X C (n + 1) i =
    gathered X C n i + onLanes (fun s => (∑ j : Fin 2048, errs (X (n * 2048 + (j : ℕ))) C s) * (1 / 2097152)) i := by
  unfold gathered
  rw [onLanes_add]
  simp only [Finset.sum_range_succ, add_mul]

/-- The losses start from zero on every lane. -/
theorem zeroL_at (i : Fin 128) : zeroL (F := Ideal) (ix2 0 i) = ((0 : ℝ) : EReal) := by
  pointwise [zeroL]
  rfl

variable (x : Vec Ideal S32x2048 .f32) (cb : Vec Ideal S3x256x32 .f32) (cbt : Vec Ideal S3x32x256 .f32)
variable (V : Fin 2048 → Fin 32 → ℝ) (C : Fin 3 → Fin 256 → Fin 32 → ℝ)
variable (hx : ∀ j a, x (ix2 a j) = ((V j a : ℝ) : EReal)) (hc : ∀ s k a, cb (ix3 s k a) = ((C s k a : ℝ) : EReal))
  (ht : ∀ s a k, cbt (ix3 s a k) = ((C s k a : ℝ) : EReal))
include hx hc ht

/-- The residual that the second stage of a block starts from. -/
theorem next1_at (j : Fin 2048) (a : Fin 32) : next x (c0 cb) (t0 cbt) (ix2 a j) = ((rest1 (V j) C a : ℝ) : EReal) :=
  next_at x (c0 cb) (t0 cbt) (C 0) (fun k a => (c0_at cb k a).trans (hc 0 k a)) (fun a k => (t0_at cbt k a).trans (ht 0 a k)) j (V j) (hx j) a

/-- The residual that the third stage of a block starts from. -/
theorem next2_at (j : Fin 2048) (a : Fin 32) :
    next (next x (c0 cb) (t0 cbt)) (c1 cb) (t1 cbt) (ix2 a j) = ((rest2 (V j) C a : ℝ) : EReal) :=
  next_at _ (c1 cb) (t1 cbt) (C 1) (fun k a => (c1_at cb k a).trans (hc 1 k a)) (fun a k => (t1_at cbt k a).trans (ht 1 a k)) j (rest1 (V j) C)
    (next1_at x cb cbt V C hx hc ht j) a

/-- The block's share of the first result. -/
theorem blockQ_at (j : Fin 2048) (a : Fin 32) :
    blockQ x (c0 cb) (c1 cb) (c2 cb) (t0 cbt) (t1 cbt) (t2 cbt) (ix2 a j) = ((total (V j) C a : ℝ) : EReal) := by
  have e0 := add_at x (c0 cb) (t0 cbt) (C 0) (fun k a => (c0_at cb k a).trans (hc 0 k a)) (fun a k => (t0_at cbt k a).trans (ht 0 a k)) j
    (V j) (hx j) a
  have e1 := add_at _ (c1 cb) (t1 cbt) (C 1) (fun k a => (c1_at cb k a).trans (hc 1 k a)) (fun a k => (t1_at cbt k a).trans (ht 1 a k)) j
    (rest1 (V j) C) (next1_at x cb cbt V C hx hc ht j) a
  have e2 := add_at _ (c2 cb) (t2 cbt) (C 2) (fun k a => (c2_at cb k a).trans (hc 2 k a)) (fun a k => (t2_at cbt k a).trans (ht 2 a k)) j
    (rest2 (V j) C) (next2_at x cb cbt V C hx hc ht j) a
  pointwise [blockQ]
  rw [e0, e1, e2, ← EReal.coe_add, ← EReal.coe_add]
  rfl

/-- The block's numbers. -/
theorem rows_at (s : Fin 3) (j : Fin 2048) :
    rows (F := Ideal) (num x (c0 cb)) (num (next x (c0 cb) (t0 cbt)) (c1 cb))
      (num (next (next x (c0 cb) (t0 cbt)) (c1 cb) (t1 cbt)) (c2 cb)) (ix3 0 s j) = BitVec.ofNat 32 (nums (V j) C s : ℕ) := by
  have e0 := num_at x (c0 cb) (C 0) (fun k a => (c0_at cb k a).trans (hc 0 k a)) j (V j) (hx j)
  have e1 := num_at _ (c1 cb) (C 1) (fun k a => (c1_at cb k a).trans (hc 1 k a)) j (rest1 (V j) C) (next1_at x cb cbt V C hx hc ht j)
  have e2 := num_at _ (c2 cb) (C 2) (fun k a => (c2_at cb k a).trans (hc 2 k a)) j (rest2 (V j) C) (next2_at x cb cbt V C hx hc ht j)
  change (if (s : ℕ) = 0 then num x (c0 cb) (ix1 j) else if (s : ℕ) = 1 then num (next x (c0 cb) (t0 cbt)) (c1 cb) (ix1 j)
    else num (next (next x (c0 cb) (t0 cbt)) (c1 cb) (t1 cbt)) (c2 cb) (ix1 j)) = _
  rw [e0, e1, e2]
  unfold nums
  split
  · rfl
  · split <;> rfl

/-- The loss row after the block. -/
theorem blockL_at (l : Vec Ideal S1x128 .f32) (i : Fin 128) (L : ℝ) (hl : l (ix2 0 i) = ((L : ℝ) : EReal)) :
    blockL l x (c0 cb) (c1 cb) (c2 cb) (t0 cbt) (t1 cbt) (t2 cbt) (ix2 0 i) =
      ((L + onLanes (fun s => (∑ j, errs (V j) C s) * (1 / 2097152)) i : ℝ) : EReal) := by
  have e0 := loss_at x (c0 cb) (t0 cbt) (C 0) (fun k a => (c0_at cb k a).trans (hc 0 k a)) (fun a k => (t0_at cbt k a).trans (ht 0 a k))
    0#32 V hx i
  have e1 := loss_at _ (c1 cb) (t1 cbt) (C 1) (fun k a => (c1_at cb k a).trans (hc 1 k a)) (fun a k => (t1_at cbt k a).trans (ht 1 a k))
    1#32 (fun j => rest1 (V j) C) (next1_at x cb cbt V C hx hc ht) i
  have e2 := loss_at _ (c2 cb) (t2 cbt) (C 2) (fun k a => (c2_at cb k a).trans (hc 2 k a)) (fun a k => (t2_at cbt k a).trans (ht 2 a k))
    2#32 (fun j => rest2 (V j) C) (next2_at x cb cbt V C hx hc ht) i
  pointwise [blockL]
  rw [hl, e0, e1, e2, ← EReal.coe_add, ← EReal.coe_add, ← EReal.coe_add]
  refine congrArg _ ?_
  unfold onLanes
  rw [add_assoc, add_assoc, add_assoc]
  rfl

end Cert.Proof.Blk
-- ==== Proof.Region0.lean ====
/-
  The first launch over real numbers: with row `n` of its columns the real vector `X n` and the codebooks the real matrices `C`, what
  its three result arrays hold.
-/
module

public import proofs.«01_k».proof.Proof.BlockAt
public import proofs.«01_k».proof.Proof.Gen.KernelIdeal.Frame

@[expose] public section

set_option maxRecDepth 16384

noncomputable section

namespace Cert.Proof.Reg0

open Cert.KernelIdeal Cert.KernelIdeal.Gen Cert.Proof.Spec Cert.Proof.Words Cert.Proof.Blk
open Idealize.ShloMosaic Idealize.ShloMosaic.TcCoe Idealize.SL.Sem
open scoped BigOperators

variable (V : (c : Dev nD) → (b : Ref sig .tc) → Buf (Elt Ideal) ((c : Thread nD τ).loc b)) (c : Dev nD)
variable (X : ℕ → Fin 32 → ℝ) (C : Fin 3 → Fin 256 → Fin 32 → ℝ)

/-- Where each window's block lies at a point. -/
theorem place : ∀ t : Fin cfg0.N, win0_0.index t = ![0, (t : ℕ)] ∧ win0_1.index t = ![0, 0, 0] ∧ win0_2.index t = ![0, 0, 0] ∧
    win0_3.index t = ![0, (t : ℕ)] ∧ win0_4.index t = ![(t : ℕ), 0, 0] ∧ win0_5.index t = ![0, 0] :=
  (by decide +kernel : ∀ t : Fin grid0.N, win0_0.index t = ![0, (t : ℕ)] ∧ win0_1.index t = ![0, 0, 0] ∧ win0_2.index t = ![0, 0, 0] ∧
    win0_3.index t = ![0, (t : ℕ)] ∧ win0_4.index t = ![(t : ℕ), 0, 0] ∧ win0_5.index t = ![0, 0])

/-- The contents the launch finds: row `n` in column `n`, the codebooks, and the codebooks transposed. -/
structure Finds : Prop where
  x : ∀ (n : Fin 32768) a, V c main_call0_v3 (ix2 a n) = ((X (n : ℕ) a : ℝ) : EReal)
  b : ∀ s k a, V c main_arg1 (ix3 s k a) = ((C s k a : ℝ) : EReal)
  t : ∀ s a k, V c main_call0_v0 (ix3 s a k) = ((C s k a : ℝ) : EReal)

variable {V c X C}

/-- The launch has sixteen grid points. -/
theorem lt_N (t : Fin cfg0.N) : (t : ℕ) < 16 := lt_of_lt_of_eq t.isLt (show cfg0.N = 16 from N_0)

/-- A grid point's block of columns at an index. -/
theorem blk_x (h : Finds V c X C) (t : Fin cfg0.N) (j : Fin 2048) (a : Fin 32) :
    iblk0 V c 0 t (ix2 a j) = ((X ((t : ℕ) * 2048 + (j : ℕ)) a : ℝ) : EReal) := by
  have ht := lt_N t
  have e := h.x ⟨(t : ℕ) * 2048 + (j : ℕ), by have := j.isLt; omega⟩ a
  refine Eq.trans ?_ e
  blk_ext [iblk0, place t]

/-- A grid point's codebooks at an index. -/
theorem blk_b (h : Finds V c X C) (t : Fin cfg0.N) (s : Fin 3) (k : Fin 256) (a : Fin 32) :
    iblk0 V c 1 t (ix3 s k a) = ((C s k a : ℝ) : EReal) := by
  refine Eq.trans ?_ (h.b s k a)
  blk_ext [iblk0, place t]

/-- A grid point's transposed codebooks at an index. -/
theorem blk_t (h : Finds V c X C) (t : Fin cfg0.N) (s : Fin 3) (a : Fin 32) (k : Fin 256) :
    iblk0 V c 2 t (ix3 s a k) = ((C s k a : ℝ) : EReal) := by
  refine Eq.trans ?_ (h.t s a k)
  blk_ext [iblk0, place t]

/-- The contributions of the block at a point. -/
theorem outQ (h : Finds V c X C) (t : Fin cfg0.N) (j : Fin 2048) (a : Fin 32) :
    (outsAt0 V c t.val t.isLt).1 (ix2 a j) = ((total (X ((t : ℕ) * 2048 + (j : ℕ))) C a : ℝ) : EReal) := by
  by_cases h0 : t.val % 16 = 0
  · rw [outsAt0_A V c t h0]
    dsimp only
    rw [out0_A_3_eq]
    exact blockQ_at _ _ _ (fun j => X ((t : ℕ) * 2048 + (j : ℕ))) C (blk_x h t) (blk_b h t) (blk_t h t) j a
  · rw [outsAt0_B V c t h0]
    dsimp only
    rw [out0_B_3_eq]
    exact blockQ_at _ _ _ (fun j => X ((t : ℕ) * 2048 + (j : ℕ))) C (blk_x h t) (blk_b h t) (blk_t h t) j a

/-- The numbers of the block at a point. -/
theorem outI (h : Finds V c X C) (t : Fin cfg0.N) (s : Fin 3) (j : Fin 2048) :
    (outsAt0 V c t.val t.isLt).2.1 (ix3 0 s j) = BitVec.ofNat 32 (nums (X ((t : ℕ) * 2048 + (j : ℕ))) C s : ℕ) := by
  by_cases h0 : t.val % 16 = 0
  · rw [outsAt0_A V c t h0]
    dsimp only
    rw [out0_A_4_eq]
    exact rows_at _ _ _ (fun j => X ((t : ℕ) * 2048 + (j : ℕ))) C (blk_x h t) (blk_b h t) (blk_t h t) s j
  · rw [outsAt0_B V c t h0]
    dsimp only
    rw [out0_B_4_eq]
    exact rows_at _ _ _ (fun j => X ((t : ℕ) * 2048 + (j : ℕ))) C (blk_x h t) (blk_b h t) (blk_t h t) s j

/-- The loss row after a point. -/
theorem outL (h : Finds V c X C) (i : Fin 128) (n : ℕ) (hn : n < cfg0.N) :
    (outsAt0 V c n hn).2.2 (ix2 0 i) = ((gathered X C (n + 1) i : ℝ) : EReal) := by
  induction n with
  | zero =>
    rw [outsAt0_A V c ⟨0, hn⟩ rfl]
    dsimp only
    rw [out0_A_5_eq]
    refine (blockL_at _ _ _ (fun j => X (0 * 2048 + (j : ℕ))) C (blk_x h ⟨0, hn⟩) (blk_b h ⟨0, hn⟩) (blk_t h ⟨0, hn⟩) zeroL i 0
      (zeroL_at i)).trans (congrArg _ ?_)
    rw [gathered_succ, gathered_zero]
  | succ n ih =>
    have h16 := lt_N ⟨n + 1, hn⟩
    rw [outsAt0_B V c ⟨n + 1, hn⟩ (by dsimp only at h16 ⊢; omega)]
    dsimp only
    rw [out0_B_5_eq]
    refine (blockL_at _ _ _ (fun j => X ((n + 1) * 2048 + (j : ℕ))) C (blk_x h ⟨n + 1, hn⟩) (blk_b h ⟨n + 1, hn⟩) (blk_t h ⟨n + 1, hn⟩) _ i _
      (ih (Nat.lt_of_succ_lt hn))).trans (congrArg _ ?_)
    rw [gathered_succ X C (n + 1)]

/-- The launch's first array: the sum of the three codewords of each row. -/
theorem arrQ (h : Finds V c X C) : (dat0 V c).arrAt 3 cfg0.N = fun y : S32x32768.Idx => ((total (X (y 1 : ℕ)) C (y 0) : ℝ) : EReal) := by
  refine (dat0 V c).arrAt_eq_of_covers 3 _ (by decide +kernel) fun t hf y => ?_
  blk_simp
  rw [after0_3]
  have key : ∀ y : S32x2048.Idx, (outsAt0 V c t.val t.isLt).1 y = ((total (X ((t : ℕ) * 2048 + (y 1 : ℕ))) C (y 0) : ℝ) : EReal) := by
    intro y
    idx_vars y
    exact outQ h t _ _
  refine (key y).trans ?_
  have e1 : win0_3.index t 1 = (t : ℕ) := congrFun (place t).2.2.2.1 1
  have e0 : (win0_3.blk t).view.emb y 0 = y 0 := Fin.ext (by blk_simp; simp [place t])
  rw [e1, e0]

/-- Its second array: the three numbers of each row, in blocks of 2048 rows. -/
theorem arrI (h : Finds V c X C) : (dat0 V c).arrAt 4 cfg0.N = fun y : S16x3x2048.Idx =>
    BitVec.ofNat 32 (nums (X ((y 0 : ℕ) * 2048 + (y 2 : ℕ))) C (y 1) : ℕ) := by
  refine (dat0 V c).arrAt_eq_of_covers 4 _ (by decide +kernel) fun t hf y => ?_
  blk_simp
  rw [after0_4]
  have key : ∀ y : S1x3x2048.Idx, (outsAt0 V c t.val t.isLt).2.1 y = BitVec.ofNat 32 (nums (X ((t : ℕ) * 2048 + (y 2 : ℕ))) C (y 1) : ℕ) := by
    intro y
    idx_vars y
    rw [show y0 = 0 from Subsingleton.elim _ _]
    exact outI h t _ _
  refine (key y).trans ?_
  have e2 : win0_4.index t 2 = 0 := congrFun (place t).2.2.2.2.1 2
  have e1 : (win0_4.blk t).view.emb y 1 = y 1 := Fin.ext (by blk_simp; simp [place t])
  have e0 : win0_4.index t 0 = (t : ℕ) := congrFun (place t).2.2.2.2.1 0
  rw [e0, e1, e2, Nat.zero_mul, Nat.zero_add]

/-- Its third array: the sums of the losses on the first three lanes. -/
theorem arrL (h : Finds V c X C) : (dat0 V c).arrAt 5 cfg0.N = fun y : S1x128.Idx => ((gathered X C 16 (y 1) : ℝ) : EReal) := by
  refine (dat0 V c).arrAt_eq_of_covers 5 _ (by decide +kernel) fun t hf y => ?_
  blk_simp
  rw [after0_5]
  have ht : t.val = 15 := by have := (flush0_5 t).mp hf; have := lt_N t; omega
  have key : ∀ y : S1x128.Idx, (outsAt0 V c t.val t.isLt).2.2 y = ((gathered X C 16 (y 1) : ℝ) : EReal) := by
    intro y
    idx_vars y
    rw [show y0 = 0 from Subsingleton.elim _ _]
    refine (outL h _ t.val t.isLt).trans ?_
    rw [ht]
  refine (key y).trans ?_
  have e1 : (win0_5.blk t).view.emb y 1 = y 1 := Fin.ext (by blk_simp; simp [place t])
  rw [e1]

end Cert.Proof.Reg0
-- ==== Proof.Region1.lean ====
/-
  The second launch over real numbers: with row `n` of its columns the real vector `X n` and the codebooks the real matrices `C`, what
  its three result arrays hold.
-/
module

public import proofs.«01_k».proof.Proof.BlockAt
public import proofs.«01_k».proof.Proof.Gen.KernelIdeal.Frame

@[expose] public section

set_option maxRecDepth 16384

noncomputable section

namespace Cert.Proof.Reg1

open Cert.KernelIdeal Cert.KernelIdeal.Gen Cert.Proof.Spec Cert.Proof.Words Cert.Proof.Blk
open Idealize.ShloMosaic Idealize.ShloMosaic.TcCoe Idealize.SL.Sem
open scoped BigOperators

variable (V : (c : Dev nD) → (b : Ref sig .tc) → Buf (Elt Ideal) ((c : Thread nD τ).loc b)) (c : Dev nD)
variable (X : ℕ → Fin 32 → ℝ) (C : Fin 3 → Fin 256 → Fin 32 → ℝ)

/-- Where each window's block lies at a point. -/
theorem place : ∀ t : Fin cfg1.N, win1_0.index t = ![0, (t : ℕ)] ∧ win1_1.index t = ![0, 0, 0] ∧ win1_2.index t = ![0, 0, 0] ∧
    win1_3.index t = ![0, (t : ℕ)] ∧ win1_4.index t = ![(t : ℕ), 0, 0] ∧ win1_5.index t = ![0, 0] :=
  (by decide +kernel : ∀ t : Fin grid1.N, win1_0.index t = ![0, (t : ℕ)] ∧ win1_1.index t = ![0, 0, 0] ∧ win1_2.index t = ![0, 0, 0] ∧
    win1_3.index t = ![0, (t : ℕ)] ∧ win1_4.index t = ![(t : ℕ), 0, 0] ∧ win1_5.index t = ![0, 0])

/-- The contents the launch finds: row `n` in column `n`, the codebooks, and the codebooks transposed. -/
structure Finds : Prop where
  x : ∀ (n : Fin 32768) a, V c main_call0_v11 (ix2 a n) = ((X (n : ℕ) a : ℝ) : EReal)
  b : ∀ s k a, V c main_arg1 (ix3 s k a) = ((C s k a : ℝ) : EReal)
  t : ∀ s a k, V c main_call0_v0 (ix3 s a k) = ((C s k a : ℝ) : EReal)

variable {V c X C}

/-- The launch has sixteen grid points. -/
theorem lt_N (t : Fin cfg1.N) : (t : ℕ) < 16 := lt_of_lt_of_eq t.isLt (show cfg1.N = 16 from N_1)

/-- A grid point's block of columns at an index. -/
theorem blk_x (h : Finds V c X C) (t : Fin cfg1.N) (j : Fin 2048) (a : Fin 32) :
    iblk1 V c 0 t (ix2 a j) = ((X ((t : ℕ) * 2048 + (j : ℕ)) a : ℝ) : EReal) := by
  have ht := lt_N t
  have e := h.x ⟨(t : ℕ) * 2048 + (j : ℕ), by have := j.isLt; omega⟩ a
  refine Eq.trans ?_ e
  blk_ext [iblk1, place t]

/-- A grid point's codebooks at an index. -/
theorem blk_b (h : Finds V c X C) (t : Fin cfg1.N) (s : Fin 3) (k : Fin 256) (a : Fin 32) :
    iblk1 V c 1 t (ix3 s k a) = ((C s k a : ℝ) : EReal) := by
  refine Eq.trans ?_ (h.b s k a)
  blk_ext [iblk1, place t]

/-- A grid point's transposed codebooks at an index. -/
theorem blk_t (h : Finds V c X C) (t : Fin cfg1.N) (s : Fin 3) (a : Fin 32) (k : Fin 256) :
    iblk1 V c 2 t (ix3 s a k) = ((C s k a : ℝ) : EReal) := by
  refine Eq.trans ?_ (h.t s a k)
  blk_ext [iblk1, place t]

/-- The contributions of the block at a point. -/
theorem outQ (h : Finds V c X C) (t : Fin cfg1.N) (j : Fin 2048) (a : Fin 32) :
    (outsAt1 V c t.val t.isLt).1 (ix2 a j) = ((total (X ((t : ℕ) * 2048 + (j : ℕ))) C a : ℝ) : EReal) := by
  by_cases h0 : t.val % 16 = 0
  · rw [outsAt1_A V c t h0]
    dsimp only
    rw [out1_A_3_eq]
    exact blockQ_at _ _ _ (fun j => X ((t : ℕ) * 2048 + (j : ℕ))) C (blk_x h t) (blk_b h t) (blk_t h t) j a
  · rw [outsAt1_B V c t h0]
    dsimp only
    rw [out1_B_3_eq]
    exact blockQ_at _ _ _ (fun j => X ((t : ℕ) * 2048 + (j : ℕ))) C (blk_x h t) (blk_b h t) (blk_t h t) j a

/-- The numbers of the block at a point. -/
theorem outI (h : Finds V c X C) (t : Fin cfg1.N) (s : Fin 3) (j : Fin 2048) :
    (outsAt1 V c t.val t.isLt).2.1 (ix3 0 s j) = BitVec.ofNat 32 (nums (X ((t : ℕ) * 2048 + (j : ℕ))) C s : ℕ) := by
  by_cases h0 : t.val % 16 = 0
  · rw [outsAt1_A V c t h0]
    dsimp only
    rw [out1_A_4_eq]
    exact rows_at _ _ _ (fun j => X ((t : ℕ) * 2048 + (j : ℕ))) C (blk_x h t) (blk_b h t) (blk_t h t) s j
  · rw [outsAt1_B V c t h0]
    dsimp only
    rw [out1_B_4_eq]
    exact rows_at _ _ _ (fun j => X ((t : ℕ) * 2048 + (j : ℕ))) C (blk_x h t) (blk_b h t) (blk_t h t) s j

/-- The loss row after a point. -/
theorem outL (h : Finds V c X C) (i : Fin 128) (n : ℕ) (hn : n < cfg1.N) :
    (outsAt1 V c n hn).2.2 (ix2 0 i) = ((gathered X C (n + 1) i : ℝ) : EReal) := by
  induction n with
  | zero =>
    rw [outsAt1_A V c ⟨0, hn⟩ rfl]
    dsimp only
    rw [out1_A_5_eq]
    refine (blockL_at _ _ _ (fun j => X (0 * 2048 + (j : ℕ))) C (blk_x h ⟨0, hn⟩) (blk_b h ⟨0, hn⟩) (blk_t h ⟨0, hn⟩) zeroL i 0
      (zeroL_at i)).trans (congrArg _ ?_)
    rw [gathered_succ, gathered_zero]
  | succ n ih =>
    have h16 := lt_N ⟨n + 1, hn⟩
    rw [outsAt1_B V c ⟨n + 1, hn⟩ (by dsimp only at h16 ⊢; omega)]
    dsimp only
    rw [out1_B_5_eq]
    refine (blockL_at _ _ _ (fun j => X ((n + 1) * 2048 + (j : ℕ))) C (blk_x h ⟨n + 1, hn⟩) (blk_b h ⟨n + 1, hn⟩) (blk_t h ⟨n + 1, hn⟩) _ i _
      (ih (Nat.lt_of_succ_lt hn))).trans (congrArg _ ?_)
    rw [gathered_succ X C (n + 1)]

/-- The launch's first array: the sum of the three codewords of each row. -/
theorem arrQ (h : Finds V c X C) : (dat1 V c).arrAt 3 cfg1.N = fun y : S32x32768.Idx => ((total (X (y 1 : ℕ)) C (y 0) : ℝ) : EReal) := by
  refine (dat1 V c).arrAt_eq_of_covers 3 _ (by decide +kernel) fun t hf y => ?_
  blk_simp
  rw [after1_3]
  have key : ∀ y : S32x2048.Idx, (outsAt1 V c t.val t.isLt).1 y = ((total (X ((t : ℕ) * 2048 + (y 1 : ℕ))) C (y 0) : ℝ) : EReal) := by
    intro y
    idx_vars y
    exact outQ h t _ _
  refine (key y).trans ?_
  have e1 : win1_3.index t 1 = (t : ℕ) := congrFun (place t).2.2.2.1 1
  have e0 : (win1_3.blk t).view.emb y 0 = y 0 := Fin.ext (by blk_simp; simp [place t])
  rw [e1, e0]

/-- Its second array: the three numbers of each row, in blocks of 2048 rows. -/
theorem arrI (h : Finds V c X C) : (dat1 V c).arrAt 4 cfg1.N = fun y : S16x3x2048.Idx =>
    BitVec.ofNat 32 (nums (X ((y 0 : ℕ) * 2048 + (y 2 : ℕ))) C (y 1) : ℕ) := by
  refine (dat1 V c).arrAt_eq_of_covers 4 _ (by decide +kernel) fun t hf y => ?_
  blk_simp
  rw [after1_4]
  have key : ∀ y : S1x3x2048.Idx, (outsAt1 V c t.val t.isLt).2.1 y = BitVec.ofNat 32 (nums (X ((t : ℕ) * 2048 + (y 2 : ℕ))) C (y 1) : ℕ) := by
    intro y
    idx_vars y
    rw [show y0 = 0 from Subsingleton.elim _ _]
    exact outI h t _ _
  refine (key y).trans ?_
  have e2 : win1_4.index t 2 = 0 := congrFun (place t).2.2.2.2.1 2
  have e1 : (win1_4.blk t).view.emb y 1 = y 1 := Fin.ext (by blk_simp; simp [place t])
  have e0 : win1_4.index t 0 = (t : ℕ) := congrFun (place t).2.2.2.2.1 0
  rw [e0, e1, e2, Nat.zero_mul, Nat.zero_add]

/-- Its third array: the sums of the losses on the first three lanes. -/
theorem arrL (h : Finds V c X C) : (dat1 V c).arrAt 5 cfg1.N = fun y : S1x128.Idx => ((gathered X C 16 (y 1) : ℝ) : EReal) := by
  refine (dat1 V c).arrAt_eq_of_covers 5 _ (by decide +kernel) fun t hf y => ?_
  blk_simp
  rw [after1_5]
  have ht : t.val = 15 := by have := (flush1_5 t).mp hf; have := lt_N t; omega
  have key : ∀ y : S1x128.Idx, (outsAt1 V c t.val t.isLt).2.2 y = ((gathered X C 16 (y 1) : ℝ) : EReal) := by
    intro y
    idx_vars y
    rw [show y0 = 0 from Subsingleton.elim _ _]
    refine (outL h _ t.val t.isLt).trans ?_
    rw [ht]
  refine (key y).trans ?_
  have e1 : (win1_5.blk t).view.emb y 1 = y 1 := Fin.ext (by blk_simp; simp [place t])
  rw [e1]

end Cert.Proof.Reg1
-- ==== Proof.KernelAt.lean ====
/-
  The kernel's three results over real numbers: with row `1024 b + n` of the argument the real vector `X (1024 b + n)` and the
  codebooks the real matrices `C`, each result at an index.
-/
module

public import proofs.«01_k».proof.Proof.HostReads
public import proofs.«01_k».proof.Proof.Region0
public import proofs.«01_k».proof.Proof.Region1

@[expose] public section

set_option maxRecDepth 16384

noncomputable section

namespace Cert.Proof.Ker

open Cert.KernelIdeal Cert.KernelIdeal.Gen Cert.Proof.Spec Cert.Proof.Words Cert.Proof.Blk
open Idealize.ShloMosaic Idealize.ShloMosaic.TcCoe Idealize.SL.Sem
open scoped BigOperators

section Arrays
variable (x : FVec Ideal S64x1024x32 .f32) (cb : FVec Ideal S3x256x32 .f32) (X : ℕ → Fin 32 → ℝ) (C : Fin 3 → Fin 256 → Fin 32 → ℝ)
variable (hx : ∀ (b : Fin 64) (n : Fin 1024) a, x (ix3 b n a) = ((X ((b : ℕ) * 1024 + (n : ℕ)) a : ℝ) : EReal))

include hx in
/-- The columns of the first half of the batches at an index. -/
theorem colsA_at (n : Fin 32768) (a : Fin 32) : colsA x (ix2 a n) = ((X (n : ℕ) a : ℝ) : EReal) := by
  pointwise [colsA]
  rw [hx]
  refine congrArg (fun k => ((X k a : ℝ) : EReal)) ?_
  dsimp only
  omega

include hx in
/-- The columns of the second half of the batches at an index. -/
theorem colsB_at (n : Fin 32768) (a : Fin 32) : colsB x (ix2 a n) = ((X (32768 + (n : ℕ)) a : ℝ) : EReal) := by
  pointwise [colsB]
  rw [hx]
  refine congrArg (fun k => ((X k a : ℝ) : EReal)) ?_
  dsimp only
  omega

/-- The transposed codebooks at an index. -/
theorem flipped_at (s : Fin 3) (a : Fin 32) (k : Fin 256) : flipped cb (ix3 s a k) = cb (ix3 s k a) := by
  pointwise [flipped]

/-- Columns laid out as batches of rows, at an index. -/
theorem rowsBack_at (q : FVec Ideal S32x32768 .f32) (hq : q = fun y : S32x32768.Idx => ((total (X (y 1 : ℕ)) C (y 0) : ℝ) : EReal))
    (b : Fin 32) (n : Fin 1024) (a : Fin 32) :
    rowsBack q (ix3 b n a) = ((total (X ((b : ℕ) * 1024 + (n : ℕ))) C a : ℝ) : EReal) := by
  pointwise [rowsBack]
  rw [hq]
  rfl

/-- The blocks' indices laid out as batches of rows, at an index. -/
theorem numsBack_at (q : IVec S16x3x2048 32) (hq : q = fun y : S16x3x2048.Idx =>
    BitVec.ofNat 32 (nums (X ((y 0 : ℕ) * 2048 + (y 2 : ℕ))) C (y 1) : ℕ)) (b : Fin 32) (n : Fin 1024) (s : Fin 3) :
    numsBack q (ix3 b n s) = BitVec.ofNat 32 (nums (X ((b : ℕ) * 1024 + (n : ℕ))) C s : ℕ) := by
  pointwise [numsBack]
  rw [hq]
  refine congrArg (fun k => BitVec.ofNat 32 (nums (X k) C s : ℕ)) ?_
  change (b : ℕ) / 2 * 2048 + ((b : ℕ) % 2 * 1024 + (n : ℕ)) = _
  omega

/-- The sum of the two launches' losses at a stage. -/
theorem losses_at (p q : FVec Ideal S1x128 .f32) (s : Fin 3) :
    losses p q (ix1 s) = p (ix2 0 ⟨s, by omega⟩) + q (ix2 0 ⟨s, by omega⟩) := by
  pointwise [losses]

/-- A stage's lane holds that stage's number. -/
theorem onLanes_at (f : Fin 3 → ℝ) (s : Fin 3) : onLanes f ⟨s, by omega⟩ = f s := by
  unfold onLanes
  fin_cases s <;> simp

/-- The two halves of the rows, block by block, are all rows. -/
theorem sum_halves (e : ℕ → ℝ) :
    (∑ m ∈ Finset.range 16, ∑ j : Fin 2048, e (m * 2048 + (j : ℕ))) + (∑ m ∈ Finset.range 16, ∑ j : Fin 2048, e (32768 + (m * 2048 + (j : ℕ))))
      = ∑ n ∈ Finset.range 65536, e n := by
  have h : ∀ g : ℕ → ℝ, (∑ m ∈ Finset.range 16, ∑ j : Fin 2048, g (m * 2048 + (j : ℕ))) = ∑ n ∈ Finset.range 32768, g n := fun g => by
    rw [show (32768 : ℕ) = 16 * 2048 from rfl, Finset.sum_range_mul_split]
    exact Finset.sum_congr rfl fun m _ => (Finset.sum_range fun j => g (m * 2048 + j)).symm
  rw [h e, h fun n => e (32768 + n), show (65536 : ℕ) = 32768 + 32768 from rfl, Finset.sum_range_add]

end Arrays

section Results
variable (m : (ℓ : Loc nD τ sig) → Buf (Elt Ideal) ℓ) (ρ : Dev nD → PrngReg) (c : Dev nD)
variable (X : ℕ → Fin 32 → ℝ) (C : Fin 3 → Fin 256 → Fin 32 → ℝ)
variable (hx : ∀ (b : Fin 64) (n : Fin 1024) a, m ((c.tc : Thread nD τ).loc main_arg0) (ix3 b n a) = ((X ((b : ℕ) * 1024 + (n : ℕ)) a : ℝ) : EReal))
variable (hc : ∀ s k a, m ((c.tc : Thread nD τ).loc main_arg1) (ix3 s k a) = ((C s k a : ℝ) : EReal))
include hx hc

/-- What the first launch finds. -/
theorem finds0 : Reg0.Finds (V1 m ρ) c X C where
  x n a := (congrFun (W1_v3 m ρ c) _).trans (colsA_at _ X hx n a)
  b s k a := (congrFun (W1_arg1 m ρ c) _).trans (hc s k a)
  t s a k := ((congrFun (W1_v0 m ρ c) _).trans (flipped_at _ s a k)).trans (hc s k a)

/-- What the second launch finds. -/
theorem finds1 : Reg1.Finds (V3 m ρ) c (fun n => X (32768 + n)) C where
  x n a := (congrFun (W3_v11 m ρ c) _).trans (colsB_at _ X hx n a)
  b s k a := (congrFun (W3_arg1 m ρ c) _).trans (hc s k a)
  t s a k := ((congrFun (W3_v0 m ρ c) _).trans (flipped_at _ s a k)).trans (hc s k a)

/-- The first result: the sum of the row's three codewords. -/
theorem quantized_at (b : Fin 64) (n : Fin 1024) (a : Fin 32) :
    W5 m ρ c (Proc.devRef .tc main_v0_0) (ix3 b n a) = ((total (X ((b : ℕ) * 1024 + (n : ℕ))) C a : ℝ) : EReal) := by
  rw [W5_v0_0]
  pointwise []
  split
  · exact rowsBack_at X C _ (Reg0.arrQ (finds0 m ρ c X C hx hc)) _ n a
  · rename_i hb
    have hf := Reg1.arrQ (finds1 m ρ c X C hx hc)
    refine (rowsBack_at (fun n => X (32768 + n)) C _ hf ⟨(b : ℕ) - 32, by omega⟩ n a).trans ?_
    refine congrArg (fun k => ((total (X k) C a : ℝ) : EReal)) ?_
    change 32768 + (((b : ℕ) - 32) * 1024 + (n : ℕ)) = _
    omega

/-- The second result: the row's three numbers. -/
theorem indices_at (b : Fin 64) (n : Fin 1024) (s : Fin 3) :
    W5 m ρ c (Proc.devRef .tc main_v0_1) (ix3 b n s) = BitVec.ofNat 32 (nums (X ((b : ℕ) * 1024 + (n : ℕ))) C s : ℕ) := by
  rw [W5_v0_1]
  pointwise []
  split
  · exact numsBack_at X C _ (Reg0.arrI (finds0 m ρ c X C hx hc)) _ n s
  · rename_i hb
    have hf := Reg1.arrI (finds1 m ρ c X C hx hc)
    refine (numsBack_at (fun n => X (32768 + n)) C _ hf ⟨(b : ℕ) - 32, by omega⟩ n s).trans ?_
    refine congrArg (fun k => BitVec.ofNat 32 (nums (X k) C s : ℕ)) ?_
    change 32768 + (((b : ℕ) - 32) * 1024 + (n : ℕ)) = _
    omega

/-- The third result: the mean of what each stage leaves. -/
theorem loss_at (s : Fin 3) : W5 m ρ c (Proc.devRef .tc main_v0_2) (ix1 s) =
    (((∑ n ∈ Finset.range 65536, errs (X n) C s) * (1 / 2097152) : ℝ) : EReal) := by
  rw [W5_v0_2, losses_at, Reg0.arrL (finds0 m ρ c X C hx hc), Reg1.arrL (finds1 m ρ c X C hx hc)]
  change ((gathered X C 16 ⟨s, _⟩ : ℝ) : EReal) + ((gathered (fun n => X (32768 + n)) C 16 ⟨s, _⟩ : ℝ) : EReal) = _
  rw [← EReal.coe_add]
  unfold gathered
  rw [onLanes_at, onLanes_at, ← add_mul, sum_halves fun n => errs (X n) C s]

end Results

end Cert.Proof.Ker
-- ==== Proof.ArgMin.lean ====
/-
  The reference's index of the nearest code over real distances: the fold over (distance, number) pairs ends at the first number
  whose distance is least.
-/
module

public import proofs.«01_k».proof.Proof.RefRun
public import proofs.«01_k».proof.Proof.Spec
public import proofs.«01_k».proof.Proof.Words

@[expose] public section

set_option maxRecDepth 16384

noncomputable section

namespace Cert.Proof.Ref

open Cert.ReferenceIdeal Cert.ReferenceIdeal.Gen Cert.Proof.Spec Cert.Proof.Words
open Idealize.ShloMosaic

/-- The order of the pairs: by value, then by number. -/
def Below (p q : EReal × BitVec 32) : Prop := p.1 < q.1 ∨ (p.1 = q.1 ∧ p.2.toInt ≤ q.2.toInt)

/-- Every pair is below itself. -/
theorem Below.refl (p : EReal × BitVec 32) : Below p p := .inr ⟨rfl, le_rfl⟩

/-- The order is transitive. -/
theorem Below.trans {p q r : EReal × BitVec 32} (h : Below p q) (h' : Below q r) : Below p r := by
  rcases h with h | ⟨h, k⟩ <;> rcases h' with h' | ⟨h', k'⟩
  · exact .inl (h.trans h')
  · exact .inl (h.trans_eq h')
  · exact .inl (h.trans_lt h')
  · exact .inr ⟨h.trans h', k.trans k'⟩

/-- The body takes the lower pair. -/
theorem body_eq (p q : EReal × BitVec 32) : reducer_argmin_f32_i32 (F := Ideal) p q =
    if p.1 < q.1 ∨ (p.1 = q.1 ∧ p.2.toInt < q.2.toInt) then p else q := by
  obtain ⟨a, i⟩ := p
  obtain ⟨b, j⟩ := q
  have hs : ∀ (x y : BitVec 32), (IntOp.cmpi .slt x y) = if x.toInt < y.toInt then 1#1 else 0#1 := by
    intro x y
    by_cases h : x.toInt < y.toInt <;> simp [IntOp.cmpi, BitVec.slt, h]
  unfold reducer_argmin_f32_i32
  simp only [Ideal.cmpf_def, Ideal.cmp, hs]
  rcases lt_trichotomy a b with h | h | h
  · simp [h, h.ne, Scalar.select, IntOp.ori, IntOp.andi]
  · subst h
    by_cases hk : i.toInt < j.toInt <;> simp [hk, Scalar.select, IntOp.ori, IntOp.andi]
  · simp [h.not_gt, h.ne', Scalar.select, IntOp.ori, IntOp.andi]

/-- The body gives one of its two pairs, and that one is below both. -/
theorem body_spec (p q : EReal × BitVec 32) :
    (reducer_argmin_f32_i32 (F := Ideal) p q = p ∨ reducer_argmin_f32_i32 (F := Ideal) p q = q) ∧
      Below (reducer_argmin_f32_i32 (F := Ideal) p q) p ∧ Below (reducer_argmin_f32_i32 (F := Ideal) p q) q := by
  rw [body_eq]
  by_cases h : p.1 < q.1 ∨ (p.1 = q.1 ∧ p.2.toInt < q.2.toInt)
  · rw [if_pos h]
    exact ⟨.inl rfl, Below.refl p, h.imp_right fun h => ⟨h.1, h.2.le⟩⟩
  · rw [if_neg h]
    refine ⟨.inr rfl, ?_, Below.refl q⟩
    rcases lt_trichotomy p.1 q.1 with hl | he | hg
    · exact absurd (.inl hl) h
    · exact .inr ⟨he.symm, not_lt.mp fun hk => h (.inr ⟨he, hk⟩)⟩
    · exact .inl hg

/-- The fold over a list of pairs is one of them, or the first, and below all of them. -/
theorem fold_spec (L : List (EReal × BitVec 32)) (p : EReal × BitVec 32) :
    (L.foldl (reducer_argmin_f32_i32 (F := Ideal)) p = p ∨ L.foldl (reducer_argmin_f32_i32 (F := Ideal)) p ∈ L) ∧
      Below (L.foldl (reducer_argmin_f32_i32 (F := Ideal)) p) p ∧
      ∀ q ∈ L, Below (L.foldl (reducer_argmin_f32_i32 (F := Ideal)) p) q := by
  induction L generalizing p with
  | nil => exact ⟨.inl rfl, Below.refl p, fun q hq => absurd hq List.not_mem_nil⟩
  | cons a L ih =>
    obtain ⟨h1, h2, h3⟩ := ih (reducer_argmin_f32_i32 (F := Ideal) p a)
    obtain ⟨b1, b2, b3⟩ := body_spec p a
    rw [List.foldl_cons]
    refine ⟨?_, h2.trans b2, fun q hq => ?_⟩
    · rcases h1 with h1 | h1
      · rcases b1 with b1 | b1
        · exact .inl (h1.trans b1)
        · exact .inr (List.mem_cons.mpr (.inl (h1.trans b1)))
      · exact .inr (List.mem_cons_of_mem a h1)
    · rcases List.mem_cons.mp hq with rfl | hq
      · exact h2.trans b3
      · exact h3 q hq

/-- The source indices that a result index is reduced from. -/
theorem drop_iff (i : S64x1024x256.Idx) (b : Fin 64) (n : Fin 1024) :
    reducesTo_S64x1024x256_S64x1024_d2.drop i = ix2 b n ↔ ∃ k : Fin 256, i = ix3 b n k := by
  idx_vars i
  constructor
  · intro h
    have e0 : i0 = b := congrFun h 0
    have e1 : i1 = n := congrFun h 1
    exact ⟨i2, by rw [e0, e1]⟩
  · rintro ⟨k, h⟩
    have e0 : i0 = b := congrFun h 0
    have e1 : i1 = n := congrFun h 1
    subst e0 e1
    funext a
    match a with
    | ⟨0, _⟩ => rfl
    | ⟨1, _⟩ => rfl

/-- The pairs that a result index is reduced from. -/
theorem mem_fiber {s t : Shape} {axes : List (Fin s.rank)} (x : s.Idx → EReal) (y : IVec s 32) (h : s.ReducesTo axes t) (j : t.Idx)
    (e : Fin 256 → s.Idx) (he : ∀ i, h.drop i = j ↔ ∃ k, i = e k) (q : EReal × BitVec 32) :
    q ∈ Host.argReduceFiber x y h j ↔ ∃ k, q = (x (e k), y (e k)) := by
  unfold Host.argReduceFiber
  rw [List.mem_map]
  constructor
  · rintro ⟨i, hi, rfl⟩
    obtain ⟨k, hk⟩ := (he _).mp (of_decide_eq_true (List.mem_filter.mp hi).2)
    exact ⟨k, by rw [hk]⟩
  · rintro ⟨k, rfl⟩
    refine ⟨s.rowMajor (e k), List.mem_filter.mpr ⟨List.mem_finRange _, decide_eq_true ?_⟩, ?_⟩
    · rw [Equiv.symm_apply_apply]
      exact (he _).mpr ⟨k, rfl⟩
    · rw [Equiv.symm_apply_apply]

/-- A fold over the pairs of real distances and their numbers ends at the first least one. -/
theorem fold_first (L : List (EReal × BitVec 32)) (D : Fin 256 → ℝ) (w : BitVec 32)
    (hL : ∀ q, q ∈ L ↔ ∃ k : Fin 256, q = (((D k : ℝ) : EReal), BitVec.ofNat 32 (k : ℕ))) :
    (L.foldl (reducer_argmin_f32_i32 (F := Ideal)) ((⊤ : EReal), w)).2 = BitVec.ofNat 32 (first D : ℕ) := by
  obtain ⟨h1, -, h3⟩ := fold_spec L (⊤, w)
  have h3' := fun k : Fin 256 => h3 _ ((hL _).mpr ⟨k, rfl⟩)
  rcases h1 with h1 | h1
  · rw [h1] at h3'
    rcases h3' 0 with h | ⟨h, -⟩
    · exact absurd h (not_lt.mpr le_top)
    · exact absurd h.symm (EReal.coe_ne_top _)
  · obtain ⟨k, hk⟩ := (hL _).mp h1
    rw [hk] at h3'
    rw [hk]
    have hk' : First D k := by
      refine ⟨fun k' => ?_, fun k' hlt => ?_⟩
      · rcases h3' k' with h | ⟨h, -⟩
        · exact (EReal.coe_lt_coe_iff.mp h).le
        · exact (EReal.coe_eq_coe_iff.mp h).le
      · rcases h3' k' with h | ⟨-, h⟩
        · exact EReal.coe_lt_coe_iff.mp h
        · simp only [toInt_ofNat] at h
          have := Fin.lt_def.mp hlt
          omega
    rw [hk'.eq (first_spec D)]

/-- The array of the codes' numbers at an index. -/
theorem iota_at (b : Fin 64) (n : Fin 1024) (k : Fin 256) :
    iotaInDim S64x1024x256 32 2 (ix3 b n k) = BitVec.ofNat 32 (k : ℕ) := by pointwise []

/-- The value the reduction starts from is infinity. -/
theorem top_at (i : S_.Idx) : (constant S_ .f32 0x7F800000#32 : FVec Ideal S_ .f32) i = (⊤ : EReal) := ofBits_inf

/-- The index reduced from 256 pairs of a real and its number is the number of the first least one. -/
theorem argReduce_first {s t u : Shape} {axes : List (Fin s.rank)} (x : FVec Ideal s .f32) (y : IVec s 32) (ix : FVec Ideal u .f32)
    (iy : IVec u 32) (h : s.ReducesTo axes t) (hu : 0 < u.numel) (j : t.Idx) (e : Fin 256 → s.Idx)
    (he : ∀ i, h.drop i = j ↔ ∃ k, i = e k) (D : Fin 256 → ℝ) (hx : ∀ k, x (e k) = ((D k : ℝ) : EReal))
    (hy : ∀ k, y (e k) = BitVec.ofNat 32 (k : ℕ)) (hi : ∀ i, ix i = (⊤ : EReal)) (g : IVec t 32)
    (hg : g = fun j => (Host.argReduce (F := Ideal) (reducer_argmin_f32_i32 (F := Ideal)) x y ix iy h hu j).2) :
    g j = BitVec.ofNat 32 (first D : ℕ) := by
  rw [hg]
  refine (congrArg Prod.snd ((congrFun (Ideal.argReduce_eq_reduce2 (reducer_argmin_f32_i32 (F := Ideal)) x y ix iy h hu) j).trans
    (Host.reduce2_eq_foldl_fiber _ x y ix iy h hu j))).trans ?_
  rw [hi]
  refine fold_first _ D _ fun q => (mem_fiber x y h j e he q).trans ?_
  simp only [hx, hy]

/-- The number of the nearest code. -/
theorem nearest_at (d : FVec Ideal S64x1024x256 .f32) (b : Fin 64) (n : Fin 1024) (D : Fin 256 → ℝ)
    (hd : ∀ k, d (ix3 b n k) = ((D k : ℝ) : EReal)) : nearest d (ix2 b n) = BitVec.ofNat 32 (first D : ℕ) :=
  argReduce_first d (iotaInDim S64x1024x256 32 2) (constant S_ .f32 0x7F800000#32) (constantI S_ 32 0#32)
    reducesTo_S64x1024x256_S64x1024_d2 h_S_ (ix2 b n) (ix3 b n) (fun i => drop_iff i b n) D hd (iota_at b n) top_at (nearest d) rfl

end Cert.Proof.Ref
-- ==== Proof.Lookup.lean ====
/-
  Rows of a table looked up by number: each result row is the table's row at the number, read signed and clamped to the table.
-/
module

public import Idealize.ShloMosaic.Lib.Pointwise

@[expose] public section

noncomputable section

namespace Cert.Proof.Lookup

open Idealize.ShloMosaic

/-- The dimension numbers of a lookup of whole rows. -/
abbrev rowDims (N W B M : Nat)
    (wf : GatherDims.WF ⟨2, ![N, W]⟩ ⟨3, ![B, M, 1]⟩ ⟨3, ![B, M, W]⟩ [2] [0] [] [0] [] 2 ![1, W]) :
    GatherDims ⟨2, ![N, W]⟩ ⟨3, ![B, M, 1]⟩ ⟨3, ![B, M, W]⟩ where
  offsetDims := [2]
  collapsedSliceDims := [0]
  operandBatchingDims := []
  startIndicesBatchingDims := []
  startIndexMap := [0]
  indexVectorDim := 2
  sliceSizes := ![1, W]
  wf := wf

/-- A looked-up element is the table's element in the clamped row. -/
theorem rows_at {α : Type} {N W B M w : Nat} (hN : 0 < N)
    (wf : GatherDims.WF ⟨2, ![N, W]⟩ ⟨3, ![B, M, 1]⟩ ⟨3, ![B, M, W]⟩ [2] [0] [] [0] [] 2 ![1, W])
    (x : (⟨2, ![N, W]⟩ : Shape).Idx → α) (i : IVec ⟨3, ![B, M, 1]⟩ w) (b : Fin B) (n : Fin M) (a : Fin W) :
    Host.gather (rowDims N W B M wf) x i (ix3 b n a) = x (ix2 ⟨min (i (ix3 b n 0)).toInt.toNat (N - 1), by omega⟩ a) := by
  unfold Host.gather
  refine congrArg x ?_
  funext d
  refine Fin.ext ?_
  show (rowDims N W B M wf).start (ix3 b n a) i d + (rowDims N W B M wf).batchCoord (ix3 b n a) d
    + (rowDims N W B M wf).offCoord (ix3 b n a) d = _
  rw [GatherDims.batchCoord_eq_zero _ _ _ List.not_mem_nil, Nat.add_zero]
  match d with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (rowDims N W B M wf).startIndexMap from List.mem_singleton.mpr rfl)]
    have hsi : (rowDims N W B M wf).siIdx (ix3 b n a) ⟨List.idxOf (⟨0, by decide⟩ : Fin 2) (rowDims N W B M wf).startIndexMap,
        List.idxOf_lt_length_iff.2 (List.mem_singleton.mpr rfl)⟩ = ix3 b n 0 := by
      funext c
      refine Fin.ext ?_
      match c with
      | ⟨0, _⟩ => rfl
      | ⟨1, _⟩ => rfl
      | ⟨2, _⟩ => rfl
    rw [hsi]
    rfl
  | ⟨1, _⟩ =>
    unfold GatherDims.start
    rw [dif_neg (by simp [rowDims]), Nat.zero_add]
    rfl

end Cert.Proof.Lookup
-- ==== Proof.RefAt.lean ====
/-
  One stage of the reference over real residuals and real codes: the distances, the number of the nearest code, the code itself,
  the next residual and the loss, each at an index.
-/
module

public import proofs.«01_k».proof.Proof.ArgMin
public import proofs.«01_k».proof.Proof.Lookup

@[expose] public section

set_option maxRecDepth 16384

noncomputable section

namespace Cert.Proof.Ref

open Cert.ReferenceIdeal Cert.ReferenceIdeal.Gen Cert.Proof.Spec Cert.Proof.Words
open Idealize.ShloMosaic
open scoped BigOperators

/-! ## The words of the lookup -/

/-- A codeword's number is not moved by counting from the end. -/
theorem wrap_256 (k : Fin 256) : Scalar.select (IntOp.cmpi .slt (BitVec.ofNat 32 (k : ℕ)) 0#32)
    (IntOp.addi (BitVec.ofNat 32 (k : ℕ)) 256#32) (BitVec.ofNat 32 (k : ℕ)) = BitVec.ofNat 32 (k : ℕ) :=
  (by decide +kernel : ∀ k : Fin 256, Scalar.select (IntOp.cmpi .slt (BitVec.ofNat 32 (k : ℕ)) 0#32)
    (IntOp.addi (BitVec.ofNat 32 (k : ℕ)) 256#32) (BitVec.ofNat 32 (k : ℕ)) = BitVec.ofNat 32 (k : ℕ)) k

/-- It names a row of the codebook. -/
theorem names_row (k : Fin 256) : IntOp.andi (IntOp.cmpi .sge (BitVec.ofNat 32 (k : ℕ)) 0#32)
    (IntOp.cmpi .sle (BitVec.ofNat 32 (k : ℕ)) 255#32) = 1#1 :=
  (by decide +kernel : ∀ k : Fin 256, IntOp.andi (IntOp.cmpi .sge (BitVec.ofNat 32 (k : ℕ)) 0#32)
    (IntOp.cmpi .sle (BitVec.ofNat 32 (k : ℕ)) 255#32) = 1#1) k

/-- The row it names. -/
theorem row_number (k : Fin 256) : min (BitVec.ofNat 32 (k : ℕ)).toInt.toNat (256 - 1) = (k : ℕ) := by
  rw [toInt_ofNat]
  have := k.isLt
  omega

/-! ## The lookup -/

section Look
variable (c : FVec Ideal S256x32 .f32) (i : IVec S64x1024 32) (b : Fin 64) (n : Fin 1024) (k : Fin 256)
  (hi : i (ix2 b n) = BitVec.ofNat 32 (k : ℕ))
include hi

/-- A codeword's number, counted from the end if negative, is itself. -/
theorem wrapped_at : wrapped i (ix3 b n 0) = BitVec.ofNat 32 (k : ℕ) := by
  have h : wrapped i (ix3 b n 0) = Scalar.select (IntOp.cmpi .slt (i (ix2 b n)) 0#32) (IntOp.addi (i (ix2 b n)) 256#32) (i (ix2 b n)) := by
    pointwise [wrapped]
  rw [h, hi, wrap_256]

/-- A codeword's number is found to name a row. -/
theorem inRange_at : inRange (wrapped i) (ix2 b n) = 1#1 := by
  have h : inRange (wrapped i) (ix2 b n) = Finset.fold IntOp.andi (1#1) (fun x : Fin 1 =>
      IntOp.andi (IntOp.cmpi .sge (wrapped i (ix3 b n x)) 0#32) (IntOp.cmpi .sle (wrapped i (ix3 b n x)) 255#32)) Finset.univ := by
    pointwise [inRange]
  rw [h, Finset.univ_unique, Finset.fold_singleton]
  have h0 : (default : Fin 1) = 0 := rfl
  rw [h0, wrapped_at i b n k hi, names_row]
  rfl

/-- The looked-up code. -/
theorem lookup_at (a : Fin 32) : lookup c i (ix3 b n a) = c (ix2 k a) := by
  have h : lookup c i (ix3 b n a) = Scalar.select (inRange (wrapped i) (ix2 b n))
      (Host.gather gather_S256x32_S64x1024x1_S64x1024x32_2_0_n_n_0_2_132 c (wrapped i) (ix3 b n a)) (Ideal.ofBits .f32 2143289344#32) := by
    pointwise [lookup]
  have hg : Host.gather gather_S256x32_S64x1024x1_S64x1024x32_2_0_n_n_0_2_132 c (wrapped i) (ix3 b n a) =
      c (ix2 ⟨min (wrapped i (ix3 b n 0)).toInt.toNat (256 - 1), by omega⟩ a) :=
    Lookup.rows_at (by decide) gather_S256x32_S64x1024x1_S64x1024x32_2_0_n_n_0_2_132_wf c (wrapped i) b n a
  rw [h, inRange_at i b n k hi, hg]
  refine congrArg c (congrArg (fun r => ix2 r a) (Fin.ext ?_))
  show min (wrapped i (ix3 b n 0)).toInt.toNat (256 - 1) = (k : ℕ)
  rw [wrapped_at i b n k hi, row_number]

end Look

/-! ## A stage -/

section Stage
variable (r : FVec Ideal S64x1024x32 .f32) (c : FVec Ideal S256x32 .f32) (R : Fin 64 → Fin 1024 → Fin 32 → ℝ) (K : Fin 256 → Fin 32 → ℝ)
  (hr : ∀ b n a, r (ix3 b n a) = ((R b n a : ℝ) : EReal)) (hc : ∀ k a, c (ix2 k a) = ((K k a : ℝ) : EReal))
include hr hc

/-- The distance to a code. -/
theorem dist_at (b : Fin 64) (n : Fin 1024) (k : Fin 256) : dist r c (ix3 b n k) = ((far (R b n) K k : ℝ) : EReal) := by
  have h : dist r c (ix3 b n k) = ∑ x : Fin 32, r (ix3 b n x) * r (ix3 b n x) - Ideal.ofBits .f32 1073741824#32 * ∑ x : Fin 32, r (ix3 b n x) * c (ix2 k x)
      + ∑ x : Fin 32, c (ix2 k x) * c (ix2 k x) := by
    pointwise [dist]
  rw [h, ofBits_two]
  simp only [hr, hc, ← EReal.coe_mul, coe_sum, ← EReal.coe_sub, ← EReal.coe_add]
  rfl

/-- The number of the nearest code. -/
theorem idx_at (b : Fin 64) (n : Fin 1024) : idx r c (ix2 b n) = BitVec.ofNat 32 (best (R b n) K : ℕ) :=
  nearest_at (dist r c) b n (far (R b n) K) (dist_at r c R K hr hc b n)

/-- The nearest code. -/
theorem quant_at (b : Fin 64) (n : Fin 1024) (a : Fin 32) : quant r c (ix3 b n a) = ((K (best (R b n) K) a : ℝ) : EReal) :=
  (lookup_at c (idx r c) b n (best (R b n) K) (idx_at r c R K hr hc b n) a).trans (hc _ a)

/-- The nearest code, as the residual with what it lacks. -/
theorem through_at (b : Fin 64) (n : Fin 1024) (a : Fin 32) :
    through r (quant r c) (ix3 b n a) = ((K (best (R b n) K) a : ℝ) : EReal) := by
  have h : through r (quant r c) (ix3 b n a) = r (ix3 b n a) + (quant r c (ix3 b n a) - r (ix3 b n a)) := by
    unfold through
    pointwise []
  rw [h, quant_at r c R K hr hc, hr, ← EReal.coe_sub, ← EReal.coe_add]
  congr 1
  ring

/-- The next residual. -/
theorem next_at (b : Fin 64) (n : Fin 1024) (a : Fin 32) : next r c (ix3 b n a) = ((rest (R b n) K a : ℝ) : EReal) := by
  have h : next r c (ix3 b n a) = r (ix3 b n a) - through r (quant r c) (ix3 b n a) := by
    unfold next
    pointwise []
  rw [h, through_at r c R K hr hc, hr, ← EReal.coe_sub]
  rfl

/-- The loss. -/
theorem loss_at (i : S_.Idx) : loss r (quant r c) i = (((∑ b, ∑ n, err (R b n) K) * (1 / 2097152) : ℝ) : EReal) := by
  have h : loss r (quant r c) i = Ideal.div (∑ b : Fin 64, ∑ n : Fin 1024, ∑ a : Fin 32,
      (quant r c (ix3 b n a) - r (ix3 b n a)) * (quant r c (ix3 b n a) - r (ix3 b n a))) (Ideal.ofBits .f32 1241513984#32) := by
    unfold loss
    pointwise []
  rw [h, ofBits_count]
  simp only [quant_at r c R K hr hc, hr, ← EReal.coe_sub, ← EReal.coe_mul, coe_sum]
  have hd : ∀ s : ℝ, Ideal.div ((s : ℝ) : EReal) ((2097152 : ℝ) : EReal) = ((s * (1 / 2097152) : ℝ) : EReal) := by
    intro s
    have h2 : ((2097152 : ℝ) : EReal) ≠ 0 := by
      rw [← EReal.coe_zero]
      exact fun e => absurd (EReal.coe_eq_coe_iff.mp e) (by norm_num)
    unfold Ideal.div
    rw [if_neg h2, ← EReal.coe_inv, ← EReal.coe_mul, one_div]
  rw [hd]
  rfl

end Stage

end Cert.Proof.Ref
-- ==== Proof.RefResults.lean ====
/-
  The reference's three results over real arguments, each at an index, as the quantiser of Spec.lean.
-/
module

public import proofs.«01_k».proof.Proof.RefAt
public import Idealize.ShloMosaic.Lib.Pipeline.ValueKit

@[expose] public section

set_option maxRecDepth 16384

noncomputable section

namespace Cert.Proof.Ref

open Cert.ReferenceIdeal Cert.ReferenceIdeal.Gen Cert.Proof.Spec Cert.Proof.Words
open Idealize.ShloMosaic
open scoped BigOperators

/-! ## The stages' books and the stacks at an index -/

section Reads
variable (cb : FVec Ideal S3x256x32 .f32) (k : Fin 256) (a : Fin 32)

/-- The first stage's codebook at an index. -/
theorem book0_at : book0 cb (ix2 k a) = cb (ix3 0 k a) := by pointwise [book0]
/-- The second stage's codebook at an index. -/
theorem book1_at : book1 cb (ix2 k a) = cb (ix3 1 k a) := by pointwise [book1]
/-- The third stage's codebook at an index. -/
theorem book2_at : book2 cb (ix2 k a) = cb (ix3 2 k a) := by pointwise [book2]

/-- The stacked indices at an index are the stage's. -/
theorem stackI_at (x y z : IVec S64x1024 32) (b : Fin 64) (n : Fin 1024) (s : Fin 3) : stackI x y z (ix3 b n s) =
    if (s : ℕ) = 0 then x (ix2 b n) else if (s : ℕ) = 1 then y (ix2 b n) else z (ix2 b n) := by
  have h : stackI x y z (ix3 b n s) = if h : (s : ℕ) < 1 then x (ix2 b n) else if h : (s : ℕ) - 1 < 1 then y (ix2 b n) else z (ix2 b n) := by
    pointwise [stackI]
  rw [h]
  match s with
  | 0 => rfl
  | 1 => rfl
  | 2 => rfl

/-- The stacked losses at an index are the stage's. -/
theorem stackF_at (x y z : FVec Ideal S_ .f32) (s : Fin 3) : stackF x y z (ix1 s) =
    if (s : ℕ) = 0 then x ix0 else if (s : ℕ) = 1 then y ix0 else z ix0 := by
  have h : stackF x y z (ix1 s) = if h : (s : ℕ) < 1 then x ix0 else if h : (s : ℕ) - 1 < 1 then y ix0 else z ix0 := by
    pointwise [stackF]
  rw [h]
  match s with
  | 0 => rfl
  | 1 => rfl
  | 2 => rfl

end Reads

/-- A sum over the batches and their places is a sum over the places of the whole array. -/
theorem sum_places (f : ℕ → ℝ) : ∑ b : Fin 64, ∑ n : Fin 1024, f ((b : ℕ) * 1024 + (n : ℕ)) = ∑ p ∈ Finset.range 65536, f p := by
  rw [show (65536 : ℕ) = 64 * 1024 from rfl, Finset.sum_range_mul_split, Finset.sum_range]
  refine Finset.sum_congr rfl fun b _ => ?_
  rw [Finset.sum_range]

/-! ## The three results -/

section Results
variable (x : FVec Ideal S64x1024x32 .f32) (cb : FVec Ideal S3x256x32 .f32) (X : ℕ → Fin 32 → ℝ) (C : Fin 3 → Fin 256 → Fin 32 → ℝ)
  (hx : ∀ (b : Fin 64) (n : Fin 1024) (a : Fin 32), x (ix3 b n a) = ((X ((b : ℕ) * 1024 + (n : ℕ)) a : ℝ) : EReal))
  (hc : ∀ (s : Fin 3) (k : Fin 256) (a : Fin 32), cb (ix3 s k a) = ((C s k a : ℝ) : EReal))
include hx hc

/-- The residual the second stage starts from. -/
theorem res1_at (b : Fin 64) (n : Fin 1024) (a : Fin 32) :
    res1 x cb (ix3 b n a) = ((rest1 (X ((b : ℕ) * 1024 + (n : ℕ))) C a : ℝ) : EReal) :=
  next_at x (book0 cb) (fun b n => X ((b : ℕ) * 1024 + (n : ℕ))) (C 0) hx (fun k a => (book0_at cb k a).trans (hc 0 k a)) b n a

/-- The residual the third stage starts from. -/
theorem res2_at (b : Fin 64) (n : Fin 1024) (a : Fin 32) :
    res2 x cb (ix3 b n a) = ((rest2 (X ((b : ℕ) * 1024 + (n : ℕ))) C a : ℝ) : EReal) :=
  next_at (res1 x cb) (book1 cb) (fun b n => rest1 (X ((b : ℕ) * 1024 + (n : ℕ))) C) (C 1) (res1_at x cb X C hx hc)
    (fun k a => (book1_at cb k a).trans (hc 1 k a)) b n a

/-- The first result. -/
theorem out0_at (b : Fin 64) (n : Fin 1024) (a : Fin 32) :
    out0 x cb (ix3 b n a) = ((total (X ((b : ℕ) * 1024 + (n : ℕ))) C a : ℝ) : EReal) := by
  have h : out0 x cb (ix3 b n a) = ((Ideal.ofBits .f32 0#32 + through x (quant x (book0 cb)) (ix3 b n a))
      + through (res1 x cb) (quant (res1 x cb) (book1 cb)) (ix3 b n a)) + through (res2 x cb) (quant (res2 x cb) (book2 cb)) (ix3 b n a) := by
    unfold out0 zeros
    pointwise []
  rw [h, ofBits_zero,
    through_at x (book0 cb) (fun b n => X ((b : ℕ) * 1024 + (n : ℕ))) (C 0) hx (fun k a => (book0_at cb k a).trans (hc 0 k a)),
    through_at (res1 x cb) (book1 cb) (fun b n => rest1 (X ((b : ℕ) * 1024 + (n : ℕ))) C) (C 1) (res1_at x cb X C hx hc)
      (fun k a => (book1_at cb k a).trans (hc 1 k a)),
    through_at (res2 x cb) (book2 cb) (fun b n => rest2 (X ((b : ℕ) * 1024 + (n : ℕ))) C) (C 2) (res2_at x cb X C hx hc)
      (fun k a => (book2_at cb k a).trans (hc 2 k a)), ← EReal.coe_add, ← EReal.coe_add, ← EReal.coe_add, zero_add]
  rfl

/-- The second result. -/
theorem out1_at (b : Fin 64) (n : Fin 1024) (s : Fin 3) :
    out1 x cb (ix3 b n s) = BitVec.ofNat 32 (nums (X ((b : ℕ) * 1024 + (n : ℕ))) C s : ℕ) := by
  unfold out1
  rw [stackI_at,
    idx_at x (book0 cb) (fun b n => X ((b : ℕ) * 1024 + (n : ℕ))) (C 0) hx (fun k a => (book0_at cb k a).trans (hc 0 k a)),
    idx_at (res1 x cb) (book1 cb) (fun b n => rest1 (X ((b : ℕ) * 1024 + (n : ℕ))) C) (C 1) (res1_at x cb X C hx hc)
      (fun k a => (book1_at cb k a).trans (hc 1 k a)),
    idx_at (res2 x cb) (book2 cb) (fun b n => rest2 (X ((b : ℕ) * 1024 + (n : ℕ))) C) (C 2) (res2_at x cb X C hx hc)
      (fun k a => (book2_at cb k a).trans (hc 2 k a))]
  unfold nums
  split
  · rfl
  · split <;> rfl

/-- The third result. -/
theorem out2_at (s : Fin 3) :
    out2 x cb (ix1 s) = (((∑ p ∈ Finset.range 65536, errs (X p) C s) * (1 / 2097152) : ℝ) : EReal) := by
  unfold out2
  rw [stackF_at,
    loss_at x (book0 cb) (fun b n => X ((b : ℕ) * 1024 + (n : ℕ))) (C 0) hx (fun k a => (book0_at cb k a).trans (hc 0 k a)),
    loss_at (res1 x cb) (book1 cb) (fun b n => rest1 (X ((b : ℕ) * 1024 + (n : ℕ))) C) (C 1) (res1_at x cb X C hx hc)
      (fun k a => (book1_at cb k a).trans (hc 1 k a)),
    loss_at (res2 x cb) (book2 cb) (fun b n => rest2 (X ((b : ℕ) * 1024 + (n : ℕ))) C) (C 2) (res2_at x cb X C hx hc)
      (fun k a => (book2_at cb k a).trans (hc 2 k a)), ← sum_places]
  unfold errs
  split
  · rfl
  · split <;> rfl

end Results

end Cert.Proof.Ref
-- ==== Proof.Finite.lean ====
/-
  The precondition: arguments of which every element's magnitude is below infinity are arrays of reals.
-/
module

public import proofs.«01_k».proof.Proof.Gen.Pre_finite
public import proofs.«01_k».proof.Proof.Words
public import Idealize.ShloMosaic.Lib.ReduceAll

@[expose] public section

set_option maxRecDepth 16384

noncomputable section

namespace Cert.Proof.Finite

open Cert.Pre_finite Cert.Pre_finite.Gen Cert.Proof.Words
open Idealize.ShloMosaic

/-- A number of magnitude below infinity is real. -/
theorem real_of_lt (v : EReal) (h : Ideal.cmp .olt (max v (-v)) ⊤ = 1#1) : v = ((v.toReal : ℝ) : EReal) := by
  refine (EReal.coe_toReal ?_ ?_).symm
  · rintro rfl
    simp [Ideal.cmp] at h
  · rintro rfl
    simp [Ideal.cmp] at h

/-- A conjunction of two bits is one exactly when both are. -/
theorem both (a b : BitVec 1) (h : IntOp.andi a b = 1#1) : a = 1#1 ∧ b = 1#1 := by
  revert a b
  decide

/-- If all comparisons of an array's magnitudes with infinity hold, its elements are real. -/
theorem all_real {s t u : Shape} {axes : List (Fin s.rank)} [Subsingleton t.Idx] (x w : FVec Ideal s .f32) (init : IVec u 1)
    (h : s.ReducesTo axes t) (hu : 0 < u.numel) (j : t.Idx) (hw : ∀ i, w i = (⊤ : EReal))
    (e : Host.reduce IntOp.andi (cmpf .olt (Host.absf x) w) init h hu j = 1#1) (i : s.Idx) : x i = (((x i).toReal : ℝ) : EReal) := by
  have h1 := Host.reduce_andi_all (cmpf .olt (Host.absf x) w) init h hu j e i
  refine real_of_lt (x i) ?_
  rw [← hw i]
  exact h1

/-- A scalar has one index. -/
instance : Subsingleton S_.Idx := ⟨fun a b => funext fun d => d.elim0⟩

/-- The array compared with holds infinity everywhere. -/
theorem top_at {s : Shape} (h : S_.BroadcastsInDim s (![] : Fin 0 → Fin s.rank)) (i : s.Idx) :
    broadcastInDim s ![] h (constant S_ .f32 0x7F800000#32 : FVec Ideal S_ .f32) i = (⊤ : EReal) := ofBits_inf

variable (x : FVec Ideal S64x1024x32 .f32) (cb : FVec Ideal S3x256x32 .f32) (h : fn (F := Ideal) x cb = fun _ => 1#1)
include h

/-- The precondition is the conjunction of the two arrays' comparisons. -/
theorem conjuncts : Host.reduce IntOp.andi (cmpf .olt (Host.absf x)
      (broadcastInDim S64x1024x32 ![] bcast_S_S64x1024x32 (constant S_ .f32 0x7F800000#32))) (constantI S_ 1 1#1)
        reducesTo_S64x1024x32_S_d0_1_2 h_S_ ix0 = 1#1 ∧
    Host.reduce IntOp.andi (cmpf .olt (Host.absf cb)
      (broadcastInDim S3x256x32 ![] bcast_S_S3x256x32 (constant S_ .f32 0x7F800000#32))) (constantI S_ 1 1#1)
        reducesTo_S3x256x32_S_d0_1_2 h_S_ ix0 = 1#1 :=
  both _ _ (congrFun h ix0)

/-- Every element of the first argument is real. -/
theorem x_real (i : S64x1024x32.Idx) : x i = (((x i).toReal : ℝ) : EReal) :=
  all_real x _ _ _ _ ix0 (top_at bcast_S_S64x1024x32) (conjuncts x cb h).1 i

/-- Every element of the second argument is real. -/
theorem cb_real (i : S3x256x32.Idx) : cb i = (((cb i).toReal : ℝ) : EReal) :=
  all_real cb _ _ _ _ ix0 (top_at bcast_S_S3x256x32) (conjuncts x cb h).2 i

end Cert.Proof.Finite
-- ==== Proof.Equation.lean ====
/-
  The equation: over arguments of reals the kernel's three results are the reference's, as whole arrays.
-/
module

public import proofs.«01_k».proof.Proof.KernelAt
public import proofs.«01_k».proof.Proof.RefResults
public import proofs.«01_k».proof.Proof.Finite

@[expose] public section

set_option maxRecDepth 16384

noncomputable section

namespace Cert.Proof.Equation

open Cert.KernelIdeal Cert.KernelIdeal.Gen Cert.Proof.Spec
open Idealize.ShloMosaic Idealize.ShloMosaic.TcCoe Idealize.SL.Sem

/-- The rows of the first argument, as reals: row `n` of the flattened batches. -/
def rows (x : FVec Ideal S64x1024x32 .f32) (n : ℕ) (a : Fin 32) : ℝ :=
  (x (ix3 (⟨n / 1024 % 64, Nat.mod_lt _ (by decide)⟩ : Fin 64) (⟨n % 1024, Nat.mod_lt _ (by decide)⟩ : Fin 1024) a)).toReal

/-- The codes, as reals. -/
def codes (cb : FVec Ideal S3x256x32 .f32) (s : Fin 3) (k : Fin 256) (a : Fin 32) : ℝ := (cb (ix3 s k a)).toReal

/-- An argument of reals is read off its rows. -/
theorem rows_at (x : FVec Ideal S64x1024x32 .f32) (hx : ∀ i, x i = (((x i).toReal : ℝ) : EReal)) (b : Fin 64) (n : Fin 1024) (a : Fin 32) :
    x (ix3 b n a) = ((rows x ((b : ℕ) * 1024 + (n : ℕ)) a : ℝ) : EReal) := by
  have hb : (⟨((b : ℕ) * 1024 + (n : ℕ)) / 1024 % 64, Nat.mod_lt _ (by decide)⟩ : Fin 64) = b := by
    apply Fin.ext
    have := b.isLt
    have := n.isLt
    show ((b : ℕ) * 1024 + (n : ℕ)) / 1024 % 64 = (b : ℕ)
    omega
  have hn : (⟨((b : ℕ) * 1024 + (n : ℕ)) % 1024, Nat.mod_lt _ (by decide)⟩ : Fin 1024) = n := by
    apply Fin.ext
    have := n.isLt
    show ((b : ℕ) * 1024 + (n : ℕ)) % 1024 = (n : ℕ)
    omega
  unfold rows
  rw [hb, hn]
  exact hx _

section
variable (m : (ℓ : Loc nD τ sig) → Buf (Elt Ideal) ℓ) (ρ : Dev nD → PrngReg) (c : Dev nD)
  (x : FVec Ideal S64x1024x32 .f32) (cb : FVec Ideal S3x256x32 .f32)
  (ex : m ((c.tc : Thread nD τ).loc main_arg0) = x) (ec : m ((c.tc : Thread nD τ).loc main_arg1) = cb)
  (hx : ∀ i, x i = (((x i).toReal : ℝ) : EReal)) (hc : ∀ i, cb i = (((cb i).toReal : ℝ) : EReal))
include ex ec hx hc

/-- The quantised array. -/
theorem quantized_eq : Ref.out0 x cb = W5 m ρ c (Proc.devRef .tc main_v0_0) := by
  subst ex ec
  funext y
  idx_vars y
  exact (Ref.out0_at _ _ (rows _) (codes _) (rows_at _ hx) (fun s k a => hc _) _ _ _).trans
    (Ker.quantized_at m ρ c (rows _) (codes _) (rows_at _ hx) (fun s k a => hc _) _ _ _).symm

/-- The indices. -/
theorem indices_eq : Ref.out1 x cb = W5 m ρ c (Proc.devRef .tc main_v0_1) := by
  subst ex ec
  funext y
  idx_vars y
  exact (Ref.out1_at _ _ (rows _) (codes _) (rows_at _ hx) (fun s k a => hc _) _ _ _).trans
    (Ker.indices_at m ρ c (rows _) (codes _) (rows_at _ hx) (fun s k a => hc _) _ _ _).symm

/-- The losses. -/
theorem loss_eq : Ref.out2 x cb = W5 m ρ c (Proc.devRef .tc main_v0_2) := by
  subst ex ec
  funext y
  idx_vars y
  exact (Ref.out2_at _ _ (rows _) (codes _) (rows_at _ hx) (fun s k a => hc _) _).trans
    (Ker.loss_at m ρ c (rows _) (codes _) (rows_at _ hx) (fun s k a => hc _) _).symm

end

end Cert.Proof.Equation
-- ==== Proof.lean ====
/- The claims of proofs.«01_k».proof.Defs, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Frames
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem

/-- From equal arguments of reals the kernel and the reference end with equal results. -/
theorem algebraic : Cert.algebraic_KernelIdeal_ReferenceIdeal_pre_finite := by
  intro m g m' g' hpre hag
  have e0 := fun c => Equation.quantized_eq m g c _ _ rfl rfl (Finite.x_real _ _ (hpre c)) (Finite.cb_real _ _ (hpre c))
  have e1 := fun c => Equation.indices_eq m g c _ _ rfl rfl (Finite.x_real _ _ (hpre c)) (Finite.cb_real _ _ (hpre c))
  have e2 := fun c => Equation.loss_eq m g c _ _ rfl rfl (Finite.x_real _ _ (hpre c)) (Finite.cb_real _ _ (hpre c))
  refine ⟨fun c => KernelIdeal.Gen.W5 m g c (Proc.devRef .tc KernelIdeal.main_v0_0),
    fun c => KernelIdeal.Gen.W5 m g c (Proc.devRef .tc KernelIdeal.main_v0_1),
    fun c => KernelIdeal.Gen.W5 m g c (Proc.devRef .tc KernelIdeal.main_v0_2), Ker.run m g, ?_⟩
  refine (θ_run _ _ _).mono (fun r h c => ?_) (Ref.run m' g')
  obtain ⟨h0, h1, h2, h3, h4⟩ := h c
  rw [(hag c).1, (hag c).2] at h0 h1 h2
  exact ⟨h0.trans (e0 c), h1.trans (e1 c), h2.trans (e2 c), h3, h4⟩

/-- All claims of the certificate. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Ref.frame m ρ, fun m ρ _ => Ref.frame m ρ, trivial, algebraic⟩

end Cert.Proof

end
